-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_blur [hPre_finite_and_blur : Cert.Pre_finite_and_blur.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_blur.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_blur [hPre_finite_and_blur : Cert.Pre_finite_and_blur.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_blur.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_and_blur [hKernelIdeal : Cert.KernelIdeal.Facts] [hPre_finite_and_blur : Cert.Pre_finite_and_blur.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_blur m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_and_blur [hReferenceIdeal : Cert.ReferenceIdeal.Facts] [hPre_finite_and_blur : Cert.Pre_finite_and_blur.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_blur m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_and_blur [hKernelIdeal : Cert.KernelIdeal.Facts] [hReferenceIdeal : Cert.ReferenceIdeal.Facts] [hPre_finite_and_blur : Cert.Pre_finite_and_blur.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_blur m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_v189) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_and_blur : Cert.Pre_finite_and_blur.Facts),
    quiescent_Kernel (hKernel := hKernel)
    ∧ quiescent_KernelIdeal (hKernelIdeal := hKernelIdeal)
    ∧ quiescent_KernelIdeal_pre_finite_and_blur (hKernelIdeal := hKernelIdeal) (hPre_finite_and_blur := hPre_finite_and_blur)
    ∧ quiescent_ReferenceIdeal (hReferenceIdeal := hReferenceIdeal)
    ∧ quiescent_ReferenceIdeal_pre_finite_and_blur (hReferenceIdeal := hReferenceIdeal) (hPre_finite_and_blur := hPre_finite_and_blur)
    ∧ preserves_Kernel_KernelIdeal
    ∧ algebraic_KernelIdeal_ReferenceIdeal_pre_finite_and_blur (hKernelIdeal := hKernelIdeal) (hReferenceIdeal := hReferenceIdeal) (hPre_finite_and_blur := hPre_finite_and_blur)
-- ==== Pre_finite_and_blur.lean ====
abbrev S6272x384 : Shape := ⟨2, ![6272, 384]⟩
abbrev S16384x384 : Shape := ⟨2, ![16384, 384]⟩
abbrev S33 : Shape := ⟨1, ![33]⟩
abbrev S224x28 : Shape := ⟨2, ![224, 28]⟩
abbrev S_ : Shape := ⟨0, ![]⟩
abbrev S224 : Shape := ⟨1, ![224]⟩
abbrev S28 : Shape := ⟨1, ![28]⟩
abbrev S224x1 : Shape := ⟨2, ![224, 1]⟩
abbrev S1x28 : Shape := ⟨2, ![1, 28]⟩
abbrev S16x28 : Shape := ⟨2, ![16, 28]⟩
abbrev S240x28 : Shape := ⟨2, ![240, 28]⟩
abbrev S256x28 : Shape := ⟨2, ![256, 28]⟩
abbrev S1x33 : Shape := ⟨2, ![1, 33]⟩
abbrev S224x33 : Shape := ⟨2, ![224, 33]⟩
abbrev S224x33x1 : Shape := ⟨3, ![224, 33, 1]⟩
abbrev S224x33x28 : Shape := ⟨3, ![224, 33, 28]⟩

class Facts : Prop where
  bcast_S_S6272x384 : S_.BroadcastsInDim S6272x384 (![] : Fin 0 → Fin S6272x384.rank)
  reducesTo_S6272x384_S_d0_1 : S6272x384.ReducesTo [0, 1] S_
  h_S_ : 0 < S_.numel
  bcast_S_S16384x384 : S_.BroadcastsInDim S16384x384 (![] : Fin 0 → Fin S16384x384.rank)
  reducesTo_S16384x384_S_d0_1 : S16384x384.ReducesTo [0, 1] S_
  bcast_S_S33 : S_.BroadcastsInDim S33 (![] : Fin 0 → Fin S33.rank)
  reducesTo_S33_S_d0 : S33.ReducesTo [0] S_
  bcast_S_S224 : S_.BroadcastsInDim S224 (![] : Fin 0 → Fin S224.rank)
  bcast_S224_S224x1_0 : S224.BroadcastsInDim S224x1 (![0] : Fin 1 → Fin S224x1.rank)
  bcast_S28_S1x28_1 : S28.BroadcastsInDim S1x28 (![1] : Fin 1 → Fin S1x28.rank)
  bcast_S224x1_S224x28_0_1 : S224x1.BroadcastsInDim S224x28 (![0, 1] : Fin 2 → Fin S224x28.rank)
  bcast_S1x28_S224x28_0_1 : S1x28.BroadcastsInDim S224x28 (![0, 1] : Fin 2 → Fin S224x28.rank)
  bcast_S_S224x28 : S_.BroadcastsInDim S224x28 (![] : Fin 0 → Fin S224x28.rank)
  slices_S224x28_S1x28_0_0 : S224x28.Slices ![0, 0] S1x28
  slices_S224x28_S16x28_1_0 : S224x28.Slices ![1, 0] S16x28
  concatenates_S16x28_S224x28_S240x28_d0 : Shape.Concatenates [S16x28, S224x28] S240x28 0
  slices_S240x28_S1x28_239_0 : S240x28.Slices ![239, 0] S1x28
  slices_S240x28_S16x28_223_0 : S240x28.Slices ![223, 0] S16x28
  concatenates_S240x28_S16x28_S256x28_d0 : Shape.Concatenates [S240x28, S16x28] S256x28 0
  bcast_S33_S1x33_1 : S33.BroadcastsInDim S1x33 (![1] : Fin 1 → Fin S1x33.rank)
  bcast_S224x1_S224x33_0_1 : S224x1.BroadcastsInDim S224x33 (![0, 1] : Fin 2 → Fin S224x33.rank)
  bcast_S1x33_S224x33_0_1 : S1x33.BroadcastsInDim S224x33 (![0, 1] : Fin 2 → Fin S224x33.rank)
  bcast_S_S224x33 : S_.BroadcastsInDim S224x33 (![] : Fin 0 → Fin S224x33.rank)
  bcast_S224x33_S224x33x1_0_1 : S224x33.BroadcastsInDim S224x33x1 (![0, 1] : Fin 2 → Fin S224x33x1.rank)
  reducesTo_S224x28_S_d0_1 : S224x28.ReducesTo [0, 1] S_
  gather_S256x28_S224x33x1_S224x33x28_2_0_n_n_0_2_128_wf : GatherDims.WF S256x28 S224x33x1 S224x33x28 [2] [0] [] [0] [] 2 ![1, 28]
  dot_S224x33x28_S33_S224x28_1_0_02_n_n_n_wf : DotDims.WF S224x33x28 S33 S224x28 [1] [0] [0, 2] [] [] []

variable [Facts]

def gather_S256x28_S224x33x1_S224x33x28_2_0_n_n_0_2_128 : GatherDims S256x28 S224x33x1 S224x33x28 where
  offsetDims := [2]
  collapsedSliceDims := [0]
  operandBatchingDims := []
  startIndicesBatchingDims := []
  startIndexMap := [0]
  indexVectorDim := 2
  sliceSizes := ![1, 28]
  wf := gather_S256x28_S224x33x1_S224x33x28_2_0_n_n_0_2_128_wf
def dot_S224x33x28_S33_S224x28_1_0_02_n_n_n : DotDims S224x33x28 S33 S224x28 where
  lhsContracting := [1]
  rhsContracting := [0]
  lhsNonContracting := [0, 2]
  rhsNonContracting := []
  lhsBatch := []
  rhsBatch := []
  wf := dot_S224x33x28_S33_S224x28_1_0_02_n_n_n_wf
def fn_clip {F : FTy → Type} [FloatOps F] (arg0 : FVec F S224 .f32) (arg1 : FVec F S_ .f32) (arg2 : FVec F S_ .f32) : FVec F S224 .f32 :=
  let v0 : FVec F S_ .f32 := id arg1
  let v1 : FVec F S224 .f32 := broadcastInDim S224 ![] bcast_S_S224 v0
  let v2 : FVec F S224 .f32 := maximumf v1 arg0
  let v3 : FVec F S_ .f32 := id arg2
  let v4 : FVec F S224 .f32 := broadcastInDim S224 ![] bcast_S_S224 v3
  let v5 : FVec F S224 .f32 := minimumf v4 v2
  v5

def fn_flip {F : FTy → Type} [FloatOps F] (arg0 : FVec F S16x28 .f32) : FVec F S16x28 .f32 :=
  let v0 : FVec F S16x28 .f32 := Host.reverse [0] arg0
  v0

def fn_pad {F : FTy → Type} [FloatOps F] (arg0 : FVec F S224x28 .f32) (arg1 : IVec S_ 32) : FVec F S256x28 .f32 :=
  let v0 : FVec F S1x28 .f32 := (extractStridedSlice S1x28 ![0, 0] · slices_S224x28_S1x28_0_0) arg0
  let v1 : FVec F S16x28 .f32 := (extractStridedSlice S16x28 ![1, 0] · slices_S224x28_S16x28_1_0) arg0
  let v2 : FVec F S16x28 .f32 := fn_flip (F := F) v1
  let v3 : FVec F S240x28 .f32 := (fun a b => concatenate S240x28 0 [⟨S16x28, a⟩, ⟨S224x28, b⟩] concatenates_S16x28_S224x28_S240x28_d0) v2 arg0
  let v4 : FVec F S1x28 .f32 := (extractStridedSlice S1x28 ![239, 0] · slices_S240x28_S1x28_239_0) v3
  let v5 : FVec F S16x28 .f32 := (extractStridedSlice S16x28 ![223, 0] · slices_S240x28_S16x28_223_0) v3
  let v6 : FVec F S16x28 .f32 := fn_flip (F := F) v5
  let v7 : FVec F S256x28 .f32 := (fun a b => concatenate S256x28 0 [⟨S240x28, a⟩, ⟨S16x28, b⟩] concatenates_S240x28_S16x28_S256x28_d0) v3 v6
  v7

def fn_part2 {F : FTy → Type} [FloatOps F] (main_arg2 : FVec F S33 .f32) (main_arg3 : FVec F S224x28 .f32) (main_v13 : IVec S_ 1) (main_v33 : FVec F S256x28 .f32) : IVec S_ 1 :=
  let main_v34 : IVec S224 32 := iotaInDim S224 32 0
  let main_v35 : IVec S224x1 32 := broadcastInDim S224x1 ![0] bcast_S224_S224x1_0 main_v34
  let main_v36 : IVec S33 32 := iotaInDim S33 32 0
  let main_v37 : IVec S1x33 32 := broadcastInDim S1x33 ![1] bcast_S33_S1x33_1 main_v36
  let main_v38 : IVec S224x33 32 := broadcastInDim S224x33 ![0, 1] bcast_S224x1_S224x33_0_1 main_v35
  let main_v39 : IVec S224x33 32 := broadcastInDim S224x33 ![0, 1] bcast_S1x33_S224x33_0_1 main_v37
  let main_v40 : IVec S224x33 32 := addi main_v38 main_v39
  let main_c_12 : IVec S_ 32 := constantI S_ 32 0#32
  let main_v41 : IVec S224x33 32 := broadcastInDim S224x33 ![] bcast_S_S224x33 main_c_12
  let main_v42 : IVec S224x33 1 := cmpi .slt main_v40 main_v41
  let main_c_13 : IVec S_ 32 := constantI S_ 32 256#32
  let main_v43 : IVec S224x33 32 := broadcastInDim S224x33 ![] bcast_S_S224x33 main_c_13
  let main_v44 : IVec S224x33 32 := addi main_v40 main_v43
  let main_v45 : IVec S224x33 32 := select main_v42 main_v44 main_v40
  let main_v46 : IVec S224x33x1 32 := broadcastInDim S224x33x1 ![0, 1] bcast_S224x33_S224x33x1_0_1 main_v45
  let main_v47 : FVec F S224x33x28 .f32 := (fun x i => Host.gather gather_S256x28_S224x33x1_S224x33x28_2_0_n_n_0_2_128 x i) main_v33 main_v46
  let main_v48 : FVec F S224x28 .f32 := (fun l r => Host.dotGeneral dot_S224x33x28_S33_S224x28_1_0_02_n_n_n none l r) main_v47 main_arg2
  let main_v49 : IVec S224x28 1 := cmpf .oeq main_arg3 main_v48
  let main_c_14 : IVec S_ 1 := constantI S_ 1 1#1
  let main_v50 : IVec S_ 1 := (fun x v => Host.reduce IntOp.andi x v reducesTo_S224x28_S_d0_1 h_S_) main_v49 main_c_14
  let main_v51 : IVec S_ 1 := andi main_v13 main_v50
  main_v51

def fn_part1 {F : FTy → Type} [FloatOps F] (main_arg2 : FVec F S33 .f32) (main_arg3 : FVec F S224x28 .f32) (main_v13 : IVec S_ 1) (main_v16 : FVec F S224 .f32) : IVec S_ 1 :=
  let main_cst_5 : FVec F S_ .f32 := constant S_ .f32 0x3E000000#32
  let main_v17 : FVec F S224 .f32 := broadcastInDim S224 ![] bcast_S_S224 main_cst_5
  let main_v18 : FVec F S224 .f32 := mulf main_v16 main_v17
  let main_cst_6 : FVec F S_ .f32 := constant S_ .f32 0x3F000000#32
  let main_v19 : FVec F S224 .f32 := broadcastInDim S224 ![] bcast_S_S224 main_cst_6
  let main_v20 : FVec F S224 .f32 := subf main_v18 main_v19
  let main_cst_7 : FVec F S_ .f32 := constant S_ .f32 0x00000000#32
  let main_cst_8 : FVec F S_ .f32 := constant S_ .f32 0x41D80000#32
  let main_v21 : FVec F S224 .f32 := fn_clip (F := F) main_v20 main_cst_7 main_cst_8
  let main_v22 : FVec F S28 .f32 := sitofp .f32 (iotaInDim S28 32 0)
  let main_v23 : FVec F S224x1 .f32 := broadcastInDim S224x1 ![0] bcast_S224_S224x1_0 main_v21
  let main_v24 : FVec F S1x28 .f32 := broadcastInDim S1x28 ![1] bcast_S28_S1x28_1 main_v22
  let main_v25 : FVec F S224x28 .f32 := broadcastInDim S224x28 ![0, 1] bcast_S224x1_S224x28_0_1 main_v23
  let main_v26 : FVec F S224x28 .f32 := broadcastInDim S224x28 ![0, 1] bcast_S1x28_S224x28_0_1 main_v24
  let main_v27 : FVec F S224x28 .f32 := subf main_v25 main_v26
  let main_v28 : FVec F S224x28 .f32 := Host.absf main_v27
  let main_cst_9 : FVec F S_ .f32 := constant S_ .f32 0x3F800000#32
  let main_v29 : FVec F S224x28 .f32 := broadcastInDim S224x28 ![] bcast_S_S224x28 main_cst_9
  let main_v30 : FVec F S224x28 .f32 := subf main_v29 main_v28
  let main_cst_10 : FVec F S_ .f32 := constant S_ .f32 0x00000000#32
  let main_v31 : FVec F S224x28 .f32 := broadcastInDim S224x28 ![] bcast_S_S224x28 main_cst_10
  let main_v32 : FVec F S224x28 .f32 := maximumf main_v31 main_v30
  let main_c_11 : IVec S_ 32 := constantI S_ 32 0#32
  let main_v33 : FVec F S256x28 .f32 := fn_pad (F := F) main_v32 main_c_11
  fn_part2 (F := F) main_arg2 main_arg3 main_v13 main_v33

def fn {F : FTy → Type} [FloatOps F] (main_arg0 : FVec F S6272x384 .f32) (main_arg1 : FVec F S16384x384 .f32) (main_arg2 : FVec F S33 .f32) (main_arg3 : FVec F S224x28 .f32) : IVec S_ 1 :=
  let main_v0 : FVec F S6272x384 .f32 := Host.absf main_arg0
  let main_cst : FVec F S_ .f32 := constant S_ .f32 0x7F800000#32
  let main_v1 : FVec F S6272x384 .f32 := broadcastInDim S6272x384 ![] bcast_S_S6272x384 main_cst
  let main_v2 : IVec S6272x384 1 := cmpf .olt main_v0 main_v1
  let main_c : IVec S_ 1 := constantI S_ 1 1#1
  let main_v3 : IVec S_ 1 := (fun x v => Host.reduce IntOp.andi x v reducesTo_S6272x384_S_d0_1 h_S_) main_v2 main_c
  let main_v4 : FVec F S16384x384 .f32 := Host.absf main_arg1
  let main_cst_0 : FVec F S_ .f32 := constant S_ .f32 0x7F800000#32
  let main_v5 : FVec F S16384x384 .f32 := broadcastInDim S16384x384 ![] bcast_S_S16384x384 main_cst_0
  let main_v6 : IVec S16384x384 1 := cmpf .olt main_v4 main_v5
  let main_c_1 : IVec S_ 1 := constantI S_ 1 1#1
  let main_v7 : IVec S_ 1 := (fun x v => Host.reduce IntOp.andi x v reducesTo_S16384x384_S_d0_1 h_S_) main_v6 main_c_1
  let main_v8 : FVec F S33 .f32 := Host.absf main_arg2
  let main_cst_2 : FVec F S_ .f32 := constant S_ .f32 0x7F800000#32
  let main_v9 : FVec F S33 .f32 := broadcastInDim S33 ![] bcast_S_S33 main_cst_2
  let main_v10 : IVec S33 1 := cmpf .olt main_v8 main_v9
  let main_c_3 : IVec S_ 1 := constantI S_ 1 1#1
  let main_v11 : IVec S_ 1 := (fun x v => Host.reduce IntOp.andi x v reducesTo_S33_S_d0 h_S_) main_v10 main_c_3
  let main_v12 : IVec S_ 1 := andi main_v3 main_v7
  let main_v13 : IVec S_ 1 := andi main_v12 main_v11
  let main_v14 : FVec F S224 .f32 := sitofp .f32 (iotaInDim S224 32 0)
  let main_cst_4 : FVec F S_ .f32 := constant S_ .f32 0x3F000000#32
  let main_v15 : FVec F S224 .f32 := broadcastInDim S224 ![] bcast_S_S224 main_cst_4
  let main_v16 : FVec F S224 .f32 := addf main_v14 main_v15
  fn_part1 (F := F) main_arg2 main_arg3 main_v13 main_v16
-- ==== Kernel.lean ====
abbrev S6272x384 : Shape := ⟨2, ![6272, 384]⟩
abbrev S16384x384 : Shape := ⟨2, ![16384, 384]⟩
abbrev S33 : Shape := ⟨1, ![33]⟩
abbrev S224x28 : Shape := ⟨2, ![224, 28]⟩
abbrev S6272x1 : Shape := ⟨2, ![6272, 1]⟩
abbrev S2x1x16384 : Shape := ⟨3, ![2, 1, 16384]⟩
abbrev S3136x384 : Shape := ⟨2, ![3136, 384]⟩
abbrev S4096x384 : Shape := ⟨2, ![4096, 384]⟩
abbrev S3136x1 : Shape := ⟨2, ![3136, 1]⟩
abbrev S1x1x4096 : Shape := ⟨3, ![1, 1, 4096]⟩
abbrev S3136x4096 : Shape := ⟨2, ![3136, 4096]⟩
abbrev S1x384 : Shape := ⟨2, ![1, 384]⟩
abbrev S1x4096 : Shape := ⟨2, ![1, 4096]⟩
abbrev S3136 : Shape := ⟨1, ![3136]⟩
abbrev S6272 : Shape := ⟨1, ![6272]⟩
abbrev S8x784 : Shape := ⟨2, ![8, 784]⟩
abbrev S1x1x16384 : Shape := ⟨3, ![1, 1, 16384]⟩
abbrev S1x16384 : Shape := ⟨2, ![1, 16384]⟩
abbrev S8x1 : Shape := ⟨2, ![8, 1]⟩
abbrev S8x224x224 : Shape := ⟨3, ![8, 224, 224]⟩
abbrev S8 : Shape := ⟨1, ![8]⟩
abbrev S8x6272 : Shape := ⟨2, ![8, 6272]⟩
abbrev S8x384 : Shape := ⟨2, ![8, 384]⟩
abbrev S8x16384 : Shape := ⟨2, ![8, 16384]⟩
abbrev S28x28 : Shape := ⟨2, ![28, 28]⟩
abbrev S28x224 : Shape := ⟨2, ![28, 224]⟩
abbrev S224x224 : Shape := ⟨2, ![224, 224]⟩
abbrev S1x224x224 : Shape := ⟨3, ![1, 224, 224]⟩
abbrev S8x1x224x224 : Shape := ⟨4, ![8, 1, 224, 224]⟩

abbrev nBuf : Space → Nat
  | .hbm => 17
  | .vmem => 17
  | .smem => 0
  | _ => 0

abbrev bufTy : (tb : Table) → Fin (tcTables nBuf tb) → BufTy
  | .hbm, ⟨0, _⟩ => ⟨S6272x384, .f32⟩
  | .hbm, ⟨1, _⟩ => ⟨S16384x384, .f32⟩
  | .hbm, ⟨2, _⟩ => ⟨S33, .f32⟩
  | .hbm, ⟨3, _⟩ => ⟨S224x28, .f32⟩
  | .hbm, ⟨4, _⟩ => ⟨S6272x384, .bf16⟩
  | .hbm, ⟨5, _⟩ => ⟨S16384x384, .bf16⟩
  | .hbm, ⟨6, _⟩ => ⟨S6272x1, .f32⟩
  | .hbm, ⟨7, _⟩ => ⟨S2x1x16384, .f32⟩
  | .hbm, ⟨8, _⟩ => ⟨S6272, .f32⟩
  | .hbm, ⟨9, _⟩ => ⟨S8x784, .f32⟩
  | .hbm, ⟨10, _⟩ => ⟨S224x28, .f32⟩
  | .hbm, ⟨11, _⟩ => ⟨S1x1x16384, .f32⟩
  | .hbm, ⟨12, _⟩ => ⟨S1x16384, .f32⟩
  | .hbm, ⟨13, _⟩ => ⟨S8x1, .f32⟩
  | .hbm, ⟨14, _⟩ => ⟨S8x224x224, .f32⟩
  | .hbm, ⟨15, _⟩ => ⟨S8, .f32⟩
  | .hbm, ⟨16, _⟩ => ⟨S8x1x224x224, .f32⟩
  | .local _ .vmem, ⟨0, _⟩ => ⟨S3136x384, .bf16⟩
  | .local _ .vmem, ⟨1, _⟩ => ⟨S3136x384, .bf16⟩
  | .local _ .vmem, ⟨2, _⟩ => ⟨S4096x384, .bf16⟩
  | .local _ .vmem, ⟨3, _⟩ => ⟨S4096x384, .bf16⟩
  | .local _ .vmem, ⟨4, _⟩ => ⟨S3136x1, .f32⟩
  | .local _ .vmem, ⟨5, _⟩ => ⟨S3136x1, .f32⟩
  | .local _ .vmem, ⟨6, _⟩ => ⟨S1x1x4096, .f32⟩
  | .local _ .vmem, ⟨7, _⟩ => ⟨S1x1x4096, .f32⟩
  | .local _ .vmem, ⟨8, _⟩ => ⟨S3136x1, .f32⟩
  | .local _ .vmem, ⟨9, _⟩ => ⟨S6272x384, .bf16⟩
  | .local _ .vmem, ⟨10, _⟩ => ⟨S16384x384, .bf16⟩
  | .local _ .vmem, ⟨11, _⟩ => ⟨S8x784, .f32⟩
  | .local _ .vmem, ⟨12, _⟩ => ⟨S224x28, .f32⟩
  | .local _ .vmem, ⟨13, _⟩ => ⟨S1x16384, .f32⟩
  | .local _ .vmem, ⟨14, _⟩ => ⟨S224x28, .f32⟩
  | .local _ .vmem, ⟨15, _⟩ => ⟨S8x1, .f32⟩
  | .local _ .vmem, ⟨16, _⟩ => ⟨S8x224x224, .f32⟩
  | _, _ => ⟨S6272x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg1 : BitVec 32 := BitVec.ofNat 32 (i 1).val
  let c3_i32 : BitVec 32 := 3#32
  let v24 : BitVec 1 := Scalar.cmpi .eq arg1 c3_i32
  let v25 : BitVec 32 := Scalar.extui v24
  let c0_i32_13 : BitVec 32 := 0#32
  let v26 : BitVec 1 := Scalar.cmpi .ne v25 c0_i32_13
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S3136x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S3136x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := .none

abbrev stage1_0 : Fin 1 → Memref sig .tc .vmem S6272x384 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S16384x384 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S8x784 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S224x28 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x16384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S224x28 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S8x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S8x224x224 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
-- ==== ReferenceIdeal.lean ====
abbrev S6272x384 : Shape := ⟨2, ![6272, 384]⟩
abbrev S16384x384 : Shape := ⟨2, ![16384, 384]⟩
abbrev S33 : Shape := ⟨1, ![33]⟩
abbrev S224x28 : Shape := ⟨2, ![224, 28]⟩
abbrev S_ : Shape := ⟨0, ![]⟩
abbrev S6272 : Shape := ⟨1, ![6272]⟩
abbrev S6272x1 : Shape := ⟨2, ![6272, 1]⟩
abbrev S16384 : Shape := ⟨1, ![16384]⟩
abbrev S16384x1 : Shape := ⟨2, ![16384, 1]⟩
abbrev S384x16384 : Shape := ⟨2, ![384, 16384]⟩
abbrev S6272x16384 : Shape := ⟨2, ![6272, 16384]⟩
abbrev S1x16384 : Shape := ⟨2, ![1, 16384]⟩
abbrev S8x784 : Shape := ⟨2, ![8, 784]⟩
abbrev S8 : Shape := ⟨1, ![8]⟩
abbrev S8x1 : Shape := ⟨2, ![8, 1]⟩
abbrev S8x784x384 : Shape := ⟨3, ![8, 784, 384]⟩
abbrev S8x2 : Shape := ⟨2, ![8, 2]⟩
abbrev S8x384 : Shape := ⟨2, ![8, 384]⟩
abbrev S8x16384 : Shape := ⟨2, ![8, 16384]⟩
abbrev S8x9 : Shape := ⟨2, ![8, 9]⟩
abbrev S8x9x1 : Shape := ⟨3, ![8, 9, 1]⟩
abbrev S8x9x384 : Shape := ⟨3, ![8, 9, 384]⟩
abbrev S8x1x384 : Shape := ⟨3, ![8, 1, 384]⟩
abbrev S8x1x1 : Shape := ⟨3, ![8, 1, 1]⟩
abbrev S8x384x9 : Shape := ⟨3, ![8, 384, 9]⟩
abbrev S8x1x9 : Shape := ⟨3, ![8, 1, 9]⟩
abbrev S224 : Shape := ⟨1, ![224]⟩
abbrev S28 : Shape := ⟨1, ![28]⟩
abbrev S224x1 : Shape := ⟨2, ![224, 1]⟩
abbrev S1x28 : Shape := ⟨2, ![1, 28]⟩
abbrev S8x28x28 : Shape := ⟨3, ![8, 28, 28]⟩
abbrev S8x28x224 : Shape := ⟨3, ![8, 28, 224]⟩
abbrev S8x224x28 : Shape := ⟨3, ![8, 224, 28]⟩
abbrev S8x224x224 : Shape := ⟨3, ![8, 224, 224]⟩
abbrev S8x1x224 : Shape := ⟨3, ![8, 1, 224]⟩
abbrev S8x16x224 : Shape := ⟨3, ![8, 16, 224]⟩
abbrev S8x240x224 : Shape := ⟨3, ![8, 240, 224]⟩
abbrev S8x256x224 : Shape := ⟨3, ![8, 256, 224]⟩
abbrev S1x33 : Shape := ⟨2, ![1, 33]⟩
abbrev S224x33 : Shape := ⟨2, ![224, 33]⟩
abbrev S224x33x1 : Shape := ⟨3, ![224, 33, 1]⟩
abbrev S8x224x33x224 : Shape := ⟨4, ![8, 224, 33, 224]⟩
abbrev S8x1x224x224 : Shape := ⟨4, ![8, 1, 224, 224]⟩

abbrev nBuf : Space → Nat
  | .hbm => 271
  | .vmem => 0
  | .smem => 0
  | _ => 0

abbrev hbmTy0_0 (i : Nat) : BufTy := match i % 128 with
  | 0 => ⟨S6272x384, .f32⟩
  | 1 => ⟨S16384x384, .f32⟩
  | 2 => ⟨S33, .f32⟩
  | 3 => ⟨S224x28, .f32⟩
  | 4 => ⟨S6272x384, .f32⟩
  | 5 => ⟨S_, .f32⟩
  | 6 => ⟨S6272, .f32⟩
  | 7 => ⟨S6272x1, .f32⟩
  | 8 => ⟨S16384x384, .f32⟩
  | 9 => ⟨S_, .f32⟩
  | 10 => ⟨S16384, .f32⟩
  | 11 => ⟨S16384x1, .f32⟩
  | 12 => ⟨S384x16384, .f32⟩
  | 13 => ⟨S6272x16384, .f32⟩
  | 14 => ⟨S_, .f32⟩
  | 15 => ⟨S6272x16384, .f32⟩
  | 16 => ⟨S6272x16384, .f32⟩
  | 17 => ⟨S6272x16384, .f32⟩
  | 18 => ⟨S6272x16384, .f32⟩
  | 19 => ⟨S1x16384, .f32⟩
  | 20 => ⟨S6272x16384, .f32⟩
  | 21 => ⟨S6272x16384, .f32⟩
  | 22 => ⟨S_, .f32⟩
  | 23 => ⟨S_, .f32⟩
  | 24 => ⟨S6272x16384, .f32⟩
  | 25 => ⟨S6272x16384, .f32⟩
  | 26 => ⟨S6272x16384, .f32⟩
  | 27 => ⟨S_, .f32⟩
  | 28 => ⟨S6272, .f32⟩
  | 29 => ⟨S6272x16384, .f32⟩
  | 30 => ⟨S6272x1, .f32⟩
  | 31 => ⟨S6272x1, .i32⟩
  | 32 => ⟨S8x784, .f32⟩
  | 33 => ⟨S8x784, .i32⟩
  | 34 => ⟨S8, .i32⟩
  | 35 => ⟨S8x1, .f32⟩
  | 36 => ⟨S8x1, .i32⟩
  | 37 => ⟨S8, .i32⟩
  | 38 => ⟨S8x784x384, .f32⟩
  | 39 => ⟨S_, .i32⟩
  | 40 => ⟨S8, .i32⟩
  | 41 => ⟨S8, .i1⟩
  | 42 => ⟨S_, .i32⟩
  | 43 => ⟨S8, .i32⟩
  | 44 => ⟨S8, .i32⟩
  | 45 => ⟨S8, .i32⟩
  | 46 => ⟨S_, .i32⟩
  | 47 => ⟨S8, .i32⟩
  | 48 => ⟨S8, .i1⟩
  | 49 => ⟨S_, .i32⟩
  | 50 => ⟨S8, .i32⟩
  | 51 => ⟨S8, .i32⟩
  | 52 => ⟨S8, .i32⟩
  | 53 => ⟨S8x1, .i32⟩
  | 54 => ⟨S8x1, .i32⟩
  | 55 => ⟨S8x2, .i32⟩
  | 56 => ⟨S8x384, .f32⟩
  | 57 => ⟨S_, .i32⟩
  | 58 => ⟨S8, .i32⟩
  | 59 => ⟨S8, .i1⟩
  | 60 => ⟨S_, .i32⟩
  | 61 => ⟨S8, .i32⟩
  | 62 => ⟨S8, .i32⟩
  | 63 => ⟨S8, .i32⟩
  | 64 => ⟨S_, .i32⟩
  | 65 => ⟨S8, .i32⟩
  | 66 => ⟨S8, .i1⟩
  | 67 => ⟨S_, .i32⟩
  | 68 => ⟨S8, .i32⟩
  | 69 => ⟨S8, .i32⟩
  | 70 => ⟨S8, .i32⟩
  | 71 => ⟨S8x1, .i32⟩
  | 72 => ⟨S8x1, .i32⟩
  | 73 => ⟨S8x2, .i32⟩
  | 74 => ⟨S8, .f32⟩
  | 75 => ⟨S_, .i32⟩
  | 76 => ⟨S8, .i32⟩
  | 77 => ⟨S8, .i1⟩
  | 78 => ⟨S_, .i32⟩
  | 79 => ⟨S8, .i32⟩
  | 80 => ⟨S8, .i32⟩
  | 81 => ⟨S8, .i32⟩
  | 82 => ⟨S_, .i32⟩
  | 83 => ⟨S8, .i32⟩
  | 84 => ⟨S8, .i1⟩
  | 85 => ⟨S_, .i32⟩
  | 86 => ⟨S8, .i32⟩
  | 87 => ⟨S8, .i32⟩
  | 88 => ⟨S8, .i32⟩
  | 89 => ⟨S8x1, .i32⟩
  | 90 => ⟨S8x1, .i32⟩
  | 91 => ⟨S8x2, .i32⟩
  | 92 => ⟨S8, .i32⟩
  | 93 => ⟨S_, .i32⟩
  | 94 => ⟨S8, .i32⟩
  | 95 => ⟨S8, .i1⟩
  | 96 => ⟨S_, .i32⟩
  | 97 => ⟨S8, .i32⟩
  | 98 => ⟨S8, .i32⟩
  | 99 => ⟨S8, .i32⟩
  | 100 => ⟨S8x1, .i32⟩
  | 101 => ⟨S8x384, .f32⟩
  | 102 => ⟨S8x384, .f32⟩
  | 103 => ⟨S_, .f32⟩
  | 104 => ⟨S8, .f32⟩
  | 105 => ⟨S8x1, .f32⟩
  | 106 => ⟨S16384x384, .f32⟩
  | 107 => ⟨S_, .f32⟩
  | 108 => ⟨S16384, .f32⟩
  | 109 => ⟨S16384x1, .f32⟩
  | 110 => ⟨S384x16384, .f32⟩
  | 111 => ⟨S8x16384, .f32⟩
  | 112 => ⟨S_, .f32⟩
  | 113 => ⟨S8x16384, .f32⟩
  | 114 => ⟨S8x16384, .f32⟩
  | 115 => ⟨S8x16384, .f32⟩
  | 116 => ⟨S8x16384, .f32⟩
  | 117 => ⟨S1x16384, .f32⟩
  | 118 => ⟨S8x16384, .f32⟩
  | 119 => ⟨S8x16384, .f32⟩
  | 120 => ⟨S_, .f32⟩
  | 121 => ⟨S_, .f32⟩
  | 122 => ⟨S8x16384, .f32⟩
  | 123 => ⟨S8x16384, .f32⟩
  | 124 => ⟨S8x16384, .f32⟩
  | 125 => ⟨S8x16384, .f32⟩
  | 126 => ⟨S8x9, .f32⟩
  | 127 => ⟨S8x9, .i32⟩
  | _ => ⟨S6272x384, .f32⟩

abbrev hbmTy0_1 (i : Nat) : BufTy := match i % 128 with
  | 0 => ⟨S_, .i32⟩
  | 1 => ⟨S8x9, .i32⟩
  | 2 => ⟨S8x9, .i1⟩
  | 3 => ⟨S_, .i32⟩
  | 4 => ⟨S8x9, .i32⟩
  | 5 => ⟨S8x9, .i32⟩
  | 6 => ⟨S8x9, .i32⟩
  | 7 => ⟨S8x9x1, .i32⟩
  | 8 => ⟨S8x9x384, .f32⟩
  | 9 => ⟨S8x1x384, .f32⟩
  | 10 => ⟨S8x1x384, .f32⟩
  | 11 => ⟨S_, .f32⟩
  | 12 => ⟨S8x1, .f32⟩
  | 13 => ⟨S8x1x1, .f32⟩
  | 14 => ⟨S8x9x384, .f32⟩
  | 15 => ⟨S_, .f32⟩
  | 16 => ⟨S8x9, .f32⟩
  | 17 => ⟨S8x9x1, .f32⟩
  | 18 => ⟨S8x384x9, .f32⟩
  | 19 => ⟨S8x1x9, .f32⟩
  | 20 => ⟨S_, .f32⟩
  | 21 => ⟨S8x1x9, .f32⟩
  | 22 => ⟨S8x1x9, .f32⟩
  | 23 => ⟨S8x1x9, .f32⟩
  | 24 => ⟨S8x1x9, .f32⟩
  | 25 => ⟨S8x1x9, .f32⟩
  | 26 => ⟨S8x1x9, .f32⟩
  | 27 => ⟨S_, .f32⟩
  | 28 => ⟨S_, .f32⟩
  | 29 => ⟨S8x1x9, .f32⟩
  | 30 => ⟨S8x1x9, .f32⟩
  | 31 => ⟨S8x1x9, .f32⟩
  | 32 => ⟨S8x9, .f32⟩
  | 33 => ⟨S_, .f32⟩
  | 34 => ⟨S8, .f32⟩
  | 35 => ⟨S_, .f32⟩
  | 36 => ⟨S8, .f32⟩
  | 37 => ⟨S8, .f32⟩
  | 38 => ⟨S8x1, .f32⟩
  | 39 => ⟨S8x9, .f32⟩
  | 40 => ⟨S8x9, .f32⟩
  | 41 => ⟨S8x9, .f32⟩
  | 42 => ⟨S_, .f32⟩
  | 43 => ⟨S8, .f32⟩
  | 44 => ⟨S8x1, .f32⟩
  | 45 => ⟨S8x9, .f32⟩
  | 46 => ⟨S8x9, .f32⟩
  | 47 => ⟨S_, .f32⟩
  | 48 => ⟨S8x9, .f32⟩
  | 49 => ⟨S8x9, .f32⟩
  | 50 => ⟨S8x1, .f32⟩
  | 51 => ⟨S8, .f32⟩
  | 52 => ⟨S8, .f32⟩
  | 53 => ⟨S224, .f32⟩
  | 54 => ⟨S_, .f32⟩
  | 55 => ⟨S224, .f32⟩
  | 56 => ⟨S224, .f32⟩
  | 57 => ⟨S_, .f32⟩
  | 58 => ⟨S224, .f32⟩
  | 59 => ⟨S224, .f32⟩
  | 60 => ⟨S_, .f32⟩
  | 61 => ⟨S224, .f32⟩
  | 62 => ⟨S224, .f32⟩
  | 63 => ⟨S_, .f32⟩
  | 64 => ⟨S_, .f32⟩
  | 65 => ⟨S_, .f32⟩
  | 66 => ⟨S224, .f32⟩
  | 67 => ⟨S224, .f32⟩
  | 68 => ⟨S_, .f32⟩
  | 69 => ⟨S224, .f32⟩
  | 70 => ⟨S224, .f32⟩
  | 71 => ⟨S28, .f32⟩
  | 72 => ⟨S224x1, .f32⟩
  | 73 => ⟨S1x28, .f32⟩
  | 74 => ⟨S224x28, .f32⟩
  | 75 => ⟨S224x28, .f32⟩
  | 76 => ⟨S224x28, .f32⟩
  | 77 => ⟨S224x28, .f32⟩
  | 78 => ⟨S_, .f32⟩
  | 79 => ⟨S224x28, .f32⟩
  | 80 => ⟨S224x28, .f32⟩
  | 81 => ⟨S_, .f32⟩
  | 82 => ⟨S224x28, .f32⟩
  | 83 => ⟨S224x28, .f32⟩
  | 84 => ⟨S8x28x28, .f32⟩
  | 85 => ⟨S8x28x224, .f32⟩
  | 86 => ⟨S8x224x28, .f32⟩
  | 87 => ⟨S8x224x224, .f32⟩
  | 88 => ⟨S_, .i32⟩
  | 89 => ⟨S8x1x224, .f32⟩
  | 90 => ⟨S8x16x224, .f32⟩
  | 91 => ⟨S8x16x224, .f32⟩
  | 92 => ⟨S8x240x224, .f32⟩
  | 93 => ⟨S8x1x224, .f32⟩
  | 94 => ⟨S8x16x224, .f32⟩
  | 95 => ⟨S8x16x224, .f32⟩
  | 96 => ⟨S8x256x224, .f32⟩
  | 97 => ⟨S224, .i32⟩
  | 98 => ⟨S224x1, .i32⟩
  | 99 => ⟨S33, .i32⟩
  | 100 => ⟨S1x33, .i32⟩
  | 101 => ⟨S224x33, .i32⟩
  | 102 => ⟨S224x33, .i32⟩
  | 103 => ⟨S224x33, .i32⟩
  | 104 => ⟨S_, .i32⟩
  | 105 => ⟨S224x33, .i32⟩
  | 106 => ⟨S224x33, .i1⟩
  | 107 => ⟨S_, .i32⟩
  | 108 => ⟨S224x33, .i32⟩
  | 109 => ⟨S224x33, .i32⟩
  | 110 => ⟨S224x33, .i32⟩
  | 111 => ⟨S224x33x1, .i32⟩
  | 112 => ⟨S8x224x33x224, .f32⟩
  | 113 => ⟨S8x224x224, .f32⟩
  | 114 => ⟨S8x224x224, .f32⟩
  | 115 => ⟨S_, .i32⟩
  | 116 => ⟨S8x1x224, .f32⟩
  | 117 => ⟨S8x16x224, .f32⟩
  | 118 => ⟨S8x16x224, .f32⟩
  | 119 => ⟨S8x240x224, .f32⟩
  | 120 => ⟨S8x1x224, .f32⟩
  | 121 => ⟨S8x16x224, .f32⟩
  | 122 => ⟨S8x16x224, .f32⟩
  | 123 => ⟨S8x256x224, .f32⟩
  | 124 => ⟨S224, .i32⟩
  | 125 => ⟨S224x1, .i32⟩
  | 126 => ⟨S33, .i32⟩
  | 127 => ⟨S1x33, .i32⟩
  | _ => ⟨S6272x384, .f32⟩

abbrev hbmTy0_2 (i : Nat) : BufTy := match i % 128 with
  | 0 => ⟨S224x33, .i32⟩
  | 1 => ⟨S224x33, .i32⟩
  | 2 => ⟨S224x33, .i32⟩
  | 3 => ⟨S_, .i32⟩
  | 4 => ⟨S224x33, .i32⟩
  | 5 => ⟨S224x33, .i1⟩
  | 6 => ⟨S_, .i32⟩
  | 7 => ⟨S224x33, .i32⟩
  | 8 => ⟨S224x33, .i32⟩
  | 9 => ⟨S224x33, .i32⟩
  | 10 => ⟨S224x33x1, .i32⟩
  | 11 => ⟨S8x224x33x224, .f32⟩
  | 12 => ⟨S8x224x224, .f32⟩
  | 13 => ⟨S8x224x224, .f32⟩
  | 14 => ⟨S8x1x224x224, .f32⟩
  | _ => ⟨S6272x384, .f32⟩

abbrev hbmTy (i : Nat) : BufTy := match i / 128 with
  | 0 => hbmTy0_0 i
  | 1 => hbmTy0_1 i
  | 2 => hbmTy0_2 i
  | _ => ⟨S6272x384, .f32⟩

abbrev bufTy : (tb : Table) → Fin (tcTables nBuf tb) → BufTy
  | .hbm, ⟨i, _⟩ => hbmTy i
  | _, _ => ⟨S6272x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_values : Ref sig .tc := ⟨.hbm, 30, rfl⟩
abbrev main_indices : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_values_4 : Ref sig .tc := ⟨.hbm, 35, rfl⟩
abbrev main_indices_5 : Ref sig .tc := ⟨.hbm, 36, rfl⟩
abbrev main_v22 : Ref sig .tc := ⟨.hbm, 37, rfl⟩
abbrev main_v23 : Ref sig .tc := ⟨.hbm, 38, rfl⟩
abbrev main_c : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_c_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_9 : Ref sig .tc := ⟨.hbm, 57, rfl⟩
abbrev main_v38 : Ref sig .tc := ⟨.hbm, 58, rfl⟩
abbrev main_v39 : Ref sig .tc := ⟨.hbm, 59, rfl⟩
abbrev main_c_10 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_11 : Ref sig .tc := ⟨.hbm, 64, rfl⟩
abbrev main_v43 : Ref sig .tc := ⟨.hbm, 65, rfl⟩
abbrev main_v44 : Ref sig .tc := ⟨.hbm, 66, rfl⟩
abbrev main_c_12 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_13 : Ref sig .tc := ⟨.hbm, 75, rfl⟩
abbrev main_v52 : Ref sig .tc := ⟨.hbm, 76, rfl⟩
abbrev main_v53 : Ref sig .tc := ⟨.hbm, 77, rfl⟩
abbrev main_c_14 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_15 : Ref sig .tc := ⟨.hbm, 82, rfl⟩
abbrev main_v57 : Ref sig .tc := ⟨.hbm, 83, rfl⟩
abbrev main_v58 : Ref sig .tc := ⟨.hbm, 84, rfl⟩
abbrev main_c_16 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_17 : Ref sig .tc := ⟨.hbm, 93, rfl⟩
abbrev main_v66 : Ref sig .tc := ⟨.hbm, 94, rfl⟩
abbrev main_v67 : Ref sig .tc := ⟨.hbm, 95, rfl⟩
abbrev main_c_18 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_19 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_20 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_21 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_22 : Ref sig .tc := ⟨.hbm, 120, rfl⟩
abbrev main_call1_v0 : Ref sig .tc := ⟨.hbm, 121, rfl⟩
abbrev main_call1_v1 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_values_23 : Ref sig .tc := ⟨.hbm, 126, rfl⟩
abbrev main_indices_24 : Ref sig .tc := ⟨.hbm, 127, rfl⟩
abbrev main_c_25 : Ref sig .tc := ⟨.hbm, 128, rfl⟩
abbrev main_v91 : Ref sig .tc := ⟨.hbm, 129, rfl⟩
abbrev main_v92 : Ref sig .tc := ⟨.hbm, 130, rfl⟩
abbrev main_c_26 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_cst_27 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_cst_28 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_cst_29 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_cst_30 : Ref sig .tc := ⟨.hbm, 155, rfl⟩
abbrev main_call2_v0 : Ref sig .tc := ⟨.hbm, 156, rfl⟩
abbrev main_call2_v1 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_cst_31 : Ref sig .tc := ⟨.hbm, 161, rfl⟩
abbrev main_v116 : Ref sig .tc := ⟨.hbm, 162, rfl⟩
abbrev main_cst_32 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_cst_33 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_cst_34 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_cst_35 : Ref sig .tc := ⟨.hbm, 182, rfl⟩
abbrev main_v133 : Ref sig .tc := ⟨.hbm, 183, rfl⟩
abbrev main_v134 : Ref sig .tc := ⟨.hbm, 184, rfl⟩
abbrev main_cst_36 : Ref sig .tc := ⟨.hbm, 185, rfl⟩
abbrev main_v135 : Ref sig .tc := ⟨.hbm, 186, rfl⟩
abbrev main_v136 : Ref sig .tc := ⟨.hbm, 187, rfl⟩
abbrev main_cst_37 : Ref sig .tc := ⟨.hbm, 188, rfl⟩
abbrev main_v137 : Ref sig .tc := ⟨.hbm, 189, rfl⟩
abbrev main_v138 : Ref sig .tc := ⟨.hbm, 190, rfl⟩
abbrev main_cst_38 : Ref sig .tc := ⟨.hbm, 191, rfl⟩
abbrev main_cst_39 : Ref sig .tc := ⟨.hbm, 192, rfl⟩
abbrev main_call3_v0 : Ref sig .tc := ⟨.hbm, 193, rfl⟩
abbrev main_call3_v1 : Ref sig .tc := ⟨.hbm, 194, rfl⟩
abbrev main_call3_v2 : Ref sig .tc := ⟨.hbm, 195, rfl⟩
abbrev main_call3_v3 : Ref sig .tc := ⟨.hbm, 196, rfl⟩
abbrev main_call3_v4 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_cst_40 : Ref sig .tc := ⟨.hbm, 206, rfl⟩
abbrev main_v147 : Ref sig .tc := ⟨.hbm, 207, rfl⟩
abbrev main_v148 : Ref sig .tc := ⟨.hbm, 208, rfl⟩
abbrev main_cst_41 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_c_42 : Ref sig .tc := ⟨.hbm, 216, rfl⟩
abbrev main_call4_v0 : Ref sig .tc := ⟨.hbm, 217, rfl⟩
abbrev main_call4_v1 : Ref sig .tc := ⟨.hbm, 218, rfl⟩
abbrev main_call4_v2 : Ref sig .tc := ⟨.hbm, 219, rfl⟩
abbrev main_call4_v3 : Ref sig .tc := ⟨.hbm, 220, rfl⟩
abbrev main_call4_v4 : Ref sig .tc := ⟨.hbm, 221, rfl⟩
abbrev main_call4_v5 : Ref sig .tc := ⟨.hbm, 222, rfl⟩
abbrev main_call4_v6 : Ref sig .tc := ⟨.hbm, 223, rfl⟩
abbrev main_v155 : Ref sig .tc := ⟨.hbm, 224, rfl⟩
abbrev main_v156 : Ref sig .tc := ⟨.hbm, 225, rfl⟩
abbrev main_v157 : Ref sig .tc := ⟨.hbm, 226, rfl⟩
abbrev main_v158 : Ref sig .tc := ⟨.hbm, 227, rfl⟩
abbrev main_v159 : Ref sig .tc := ⟨.hbm, 228, rfl⟩
abbrev main_v160 : Ref sig .tc := ⟨.hbm, 229, rfl⟩
abbrev main_v161 : Ref sig .tc := ⟨.hbm, 230, rfl⟩
abbrev main_v162 : Ref sig .tc := ⟨.hbm, 231, rfl⟩
abbrev main_c_43 : Ref sig .tc := ⟨.hbm, 232, rfl⟩
abbrev main_v163 : Ref sig .tc := ⟨.hbm, 233, rfl⟩
abbrev main_v164 : Ref sig .tc := ⟨.hbm, 234, rfl⟩
abbrev main_c_44 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_c_45 : Ref sig .tc := ⟨.hbm, 243, rfl⟩
abbrev main_call5_v0 : Ref sig .tc := ⟨.hbm, 244, rfl⟩
abbrev main_call5_v1 : Ref sig .tc := ⟨.hbm, 245, rfl⟩
abbrev main_call5_v2 : Ref sig .tc := ⟨.hbm, 246, rfl⟩
abbrev main_call5_v3 : Ref sig .tc := ⟨.hbm, 247, rfl⟩
abbrev main_call5_v4 : Ref sig .tc := ⟨.hbm, 248, rfl⟩
abbrev main_call5_v5 : Ref sig .tc := ⟨.hbm, 249, rfl⟩
abbrev main_call5_v6 : Ref sig .tc := ⟨.hbm, 250, rfl⟩
abbrev main_v172 : Ref sig .tc := ⟨.hbm, 251, rfl⟩
abbrev main_v173 : Ref sig .tc := ⟨.hbm, 252, rfl⟩
abbrev main_v174 : Ref sig .tc := ⟨.hbm, 253, rfl⟩
abbrev main_v175 : Ref sig .tc := ⟨.hbm, 254, rfl⟩
abbrev main_v176 : Ref sig .tc := ⟨.hbm, 255, rfl⟩
abbrev main_v177 : Ref sig .tc := ⟨.hbm, 256, rfl⟩
abbrev main_v178 : Ref sig .tc := ⟨.hbm, 257, rfl⟩
abbrev main_v179 : Ref sig .tc := ⟨.hbm, 258, rfl⟩
abbrev main_c_46 : Ref sig .tc := ⟨.hbm, 259, rfl⟩
abbrev main_v180 : Ref sig .tc := ⟨.hbm, 260, rfl⟩
abbrev main_v181 : Ref sig .tc := ⟨.hbm, 261, rfl⟩
abbrev main_c_47 : Ref sig .tc := ⟨.hbm, 262, rfl⟩
abbrev main_v182 : Ref sig .tc := ⟨.hbm, 263, rfl⟩
abbrev main_v183 : Ref sig .tc := ⟨.hbm, 264, rfl⟩
abbrev main_v184 : Ref sig .tc := ⟨.hbm, 265, rfl⟩
abbrev main_v185 : Ref sig .tc := ⟨.hbm, 266, rfl⟩
abbrev main_v186 : Ref sig .tc := ⟨.hbm, 267, rfl⟩
abbrev main_v187 : Ref sig .tc := ⟨.hbm, 268, rfl⟩
abbrev main_v188 : Ref sig .tc := ⟨.hbm, 269, rfl⟩
abbrev main_v189 : Ref sig .tc := ⟨.hbm, 270, rfl⟩

abbrev nD : Nat := 1
abbrev τ : Topo := Topo.v7x

variable {F : FTy → Type} [FloatOps F]
-- ==== Proof.KernelIdeal.Stage1Runs.lean ====
/- The first pipeline: its buffers at the entry, its windows' blocks and the body's conditions -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- the blocks' rectangles have long axes, and their membership is decided
-- by recursion over the coordinates
set_option maxRecDepth 16384

noncomputable section

namespace Cert.KernelIdeal.Stage1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : Dev nD → Valuation τ sig (Elt F))
/-- The device's buffers when the region is entered. -/
abbrev V (c : Dev nD) (b : Ref sig .tc) : Buf (Elt F) ((c : Thread nD τ).loc b) := m c (Proc.devRef .tc b)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 4) — by arithmetic of the point. -/
theorem hcond0_0 : ∀ t : Fin cfg0.N, cond0_0 (grid0.coords t) ↔ t.val % 4 = 0 :=
  (fun t => by
    have ht : t.val < 8 := Nat.lt_of_lt_of_eq t.isLt N_0
    have e0 : (grid0.coords t 0).val = t.val / 4 % 2 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 4 = 0)

/-- The condition of the body's `scf.if` 1 (`k0_h2`), from the grid coordinates (the skeleton's scalar
    chain substituted). -/
abbrev cond0_1 (i : grid0.Coords) : Prop := (Scalar.cmpi .ne (Scalar.extui (Scalar.cmpi .sgt (BitVec.ofNat 32 (i 1).val) 0#32)) 0#32) = 1#1
/-- It holds at the points whose coordinates have 1 ≤ i1 — decided over the grid. -/
theorem hcond0_1 : ∀ t : Fin cfg0.N, cond0_1 (grid0.coords t) ↔ 1 ≤ t.val % 4 :=
  (by decide +kernel : ∀ t : Fin grid0.N, cond0_1 (grid0.coords t) ↔ 1 ≤ t.val % 4)

/-- The condition of the body's `scf.if` 2 (`k0_h3`), from the grid coordinates (the skeleton's scalar
    chain substituted). -/
abbrev cond0_2 (i : grid0.Coords) : Prop := k0_cond3 i = 1#1
/-- It holds at the points ≡ 3 (mod 4) — by arithmetic of the point. -/
theorem hcond0_2 : ∀ t : Fin cfg0.N, cond0_2 (grid0.coords t) ↔ t.val % 4 = 3 :=
  (fun t => by
    have ht : t.val < 8 := Nat.lt_of_lt_of_eq t.isLt N_0
    have e0 : (grid0.coords t 0).val = t.val / 4 % 2 := Pipeline.Grid.coords_val t 0 (by decide) rfl
    have e1 : (grid0.coords t 1).val = t.val / 1 % 4 := Pipeline.Grid.coords_val t 1 (by decide) rfl
    simp only [cond0_2, k0_cond3, e0, e1]
    word_cmp
   : ∀ t : Fin grid0.N, cond0_2 (grid0.coords t) ↔ t.val % 4 = 3)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 3 is never idle (an output stored at every point, under no condition). -/
theorem liveAt0_3 : ∀ t : Fin cfg0.N, cfg0.idle 3 (grid0.coords t) = false := fun _ => rfl
/-- At the points of case A the printed configuration (`Cfg.idle`) calls output 2 idle: the case stores nothing into it. -/
theorem idleAt0_2_A : ∀ t : Fin cfg0.N, cond0_0 (grid0.coords t) → ¬cond0_1 (grid0.coords t) → ¬cond0_2 (grid0.coords t) → cfg0.idle 2 (grid0.coords t) = true := by decide +kernel
/-- At the points of case A the pipeline does not write output 2's block back. -/
theorem noFlush0_2_A : ∀ t : Fin cfg0.N, cond0_0 (grid0.coords t) → ¬cond0_1 (grid0.coords t) → ¬cond0_2 (grid0.coords t) → (cfg0.win 2).flush t = false := by decide +kernel
/-- At the points of case B the printed configuration (`Cfg.idle`) calls output 2 idle: the case stores nothing into it. -/
theorem idleAt0_2_B : ∀ t : Fin cfg0.N, ¬cond0_0 (grid0.coords t) → cond0_1 (grid0.coords t) → ¬cond0_2 (grid0.coords t) → cfg0.idle 2 (grid0.coords t) = true := by decide +kernel
/-- At the points of case B the pipeline does not write output 2's block back. -/
theorem noFlush0_2_B : ∀ t : Fin cfg0.N, ¬cond0_0 (grid0.coords t) → cond0_1 (grid0.coords t) → ¬cond0_2 (grid0.coords t) → (cfg0.win 2).flush t = false := by decide +kernel
/-- At the points of case C the printed configuration (`Cfg.idle`) calls output 2 live: the case stores into it. -/
theorem liveAt0_2_C : ∀ t : Fin cfg0.N, ¬cond0_0 (grid0.coords t) → cond0_1 (grid0.coords t) → cond0_2 (grid0.coords t) → cfg0.idle 2 (grid0.coords t) = false := by decide +kernel

/-! ## The kernel body on any staging memrefs: a subtype the run finds -/

/-- One staging buffer of output window 2, through which its contents are stated (`View.read_writes_of_cover`: the
    choice does not matter). -/
abbrev VO0_2 : View sig .tc .vmem S3136x1 .f32 := (Memref.whole cc0_stg2_0 : Memref sig .tc .vmem S3136x1 .f32).view
/-- One staging buffer of output window 3, through which its contents are stated (`View.read_writes_of_cover`: the
    choice does not matter). -/
abbrev VO0_3 : View sig .tc .vmem S1x1x4096 .f32 := (Memref.whole cc0_stg3_0 : Memref sig .tc .vmem S1x1x4096 .f32).view
/-- Each window's current staging memref at point `t`, spelled as the pipeline passes it (`bodyAt0`), and its wholeness. -/
abbrev ms0_0 (t : Fin cfg0.N) : Memref sig .tc .vmem S3136x384 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x384 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3136x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x4096 .f32 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S3136x1 .f32 := Memref.whole cc0_scratch0
/-- The scratch `arg6` the kernel carries between points, as a view: what it holds is stated through it. -/
abbrev VS0_0 : View sig .tc .vmem S3136x1 .f32 := scM0_0.view

/-- What the body neither reads nor writes: the second pipeline's staging buffers and the PRNG register. -/
def Rest (c : Dev nD) : sProp 𝕄 := iprop(((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f)) ∗ (∃ r, prngReg c r))

/-- The frame kit's invariant is the scratch operand owned at some contents, beside the rest. -/
theorem PhiA0_eq (c : Dev nD) :
    (Pipeline.ΦA spec0 c : sProp 𝕄)
      = iprop(iprop((∃ d, owns (c : Thread nD τ) scM0_0 fullShare d)) ∗ Rest (F := F) c) := by
  have assoc (P Q R : sProp 𝕄) : iprop((P ∗ Q) ∗ R) = iprop(P ∗ Q ∗ R) := equiv_iff.mp ⟨BI.sep_assoc, BI.sep_assoc'⟩
  unfold Pipeline.ΦA; rw [scopedRest0_eq, assoc]; simp only [scM0_0, owns_whole]; rfl

end Cert.KernelIdeal.Stage1

end
-- ==== Proof.KernelIdeal.Stage1RunA.lean ====
/- The first pipeline's body run in case A of its conditions -/
module

public import proofs.«01_k».proof.Proof.KernelIdeal.Stage1Runs

@[expose] public section

-- the blocks' rectangles have long axes, and their membership is decided
-- by recursion over the coordinates
set_option maxRecDepth 16384

noncomputable section

namespace Cert.KernelIdeal.Stage1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : Dev nD → Valuation τ sig (Elt F))

-- (the run's proof term is large: the definition's epilogue — `abstractNestedProofs` — walks it past the default budget)
set_option maxHeartbeats 1000000 in
/-- What the body's stores leave in each output's staging memref, as pieces (last first) IN CASE A (`scf.if` 0 taken, `scf.if` 1 not taken, `scf.if` 2 not taken: points 0, 4), WITH the
    proof that on whole staging memrefs — the inputs' at their contents, the outputs it leaves idle (2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S3136x384 .bf16) (harg2 : arg2.IsWhole) (arg3 : Memref sig .tc .vmem S4096x384 .bf16) (harg3 : arg3.IsWhole) (arg4 : Memref sig .tc .vmem S3136x1 .f32) (harg4 : arg4.IsWhole) (arg5 : Memref sig .tc .vmem S1x1x4096 .f32) (harg5 : arg5.IsWhole) (arg6 : Memref sig .tc .vmem S3136x1 .f32) (harg6 : arg6.IsWhole) (hc0 : cond0_0 i) (hc1 : ¬cond0_1 i) (hc2 : ¬cond0_2 i)
    (x0 : Vec F S3136x384 .bf16) (x1 : Vec F S4096x384 .bf16) :
    Σ' (L2 : List (View.Piece (Elt F) S3136x1 .f32)), Σ' (L3 : List (View.Piece (Elt F) S1x1x4096 .f32)), { LS0 : List (View.Piece (Elt F) S3136x1 .f32) //
      ∀ (xi2 : Vec F S3136x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__stage1_kernel i arg2 harg2 arg3 harg3 arg4 harg4 arg5 harg5 arg6 harg6) K } := by
  refine ⟨[], ?_, ?_, fun xi2 E K => ?run⟩
  case run =>
    simp only [cc0__stage1_kernel_eq_skeleton]; unfold cc0__stage1_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Stage1

end
-- ==== Proof.KernelIdeal.Stage1RunB.lean ====
/- The first pipeline's body run in case B of its conditions -/
module

public import proofs.«01_k».proof.Proof.KernelIdeal.Stage1RunA

@[expose] public section

-- the blocks' rectangles have long axes, and their membership is decided
-- by recursion over the coordinates
set_option maxRecDepth 16384

noncomputable section

namespace Cert.KernelIdeal.Stage1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : Dev nD → Valuation τ sig (Elt F))

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken: points 1, 2, 5, 6), WITH the
    proof that on whole staging memrefs — the inputs' at their contents, the outputs it leaves idle (2: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S3136x384 .bf16) (harg2 : arg2.IsWhole) (arg3 : Memref sig .tc .vmem S4096x384 .bf16) (harg3 : arg3.IsWhole) (arg4 : Memref sig .tc .vmem S3136x1 .f32) (harg4 : arg4.IsWhole) (arg5 : Memref sig .tc .vmem S1x1x4096 .f32) (harg5 : arg5.IsWhole) (arg6 : Memref sig .tc .vmem S3136x1 .f32) (harg6 : arg6.IsWhole) (hc0 : ¬cond0_0 i) (hc1 : cond0_1 i) (hc2 : ¬cond0_2 i)
    (x0 : Vec F S3136x384 .bf16) (x1 : Vec F S4096x384 .bf16) (xs0 : Vec F S3136x1 .f32) :
    Σ' (L2 : List (View.Piece (Elt F) S3136x1 .f32)), Σ' (L3 : List (View.Piece (Elt F) S1x1x4096 .f32)), { LS0 : List (View.Piece (Elt F) S3136x1 .f32) //
      ∀ (xi2 : Vec F S3136x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__stage1_kernel i arg2 harg2 arg3 harg3 arg4 harg4 arg5 harg5 arg6 harg6) K } := by
  refine ⟨[], ?_, ?_, fun xi2 E K => ?run⟩
  case run =>
    simp only [cc0__stage1_kernel_eq_skeleton]; unfold cc0__stage1_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Stage1

end
-- ==== Proof.KernelIdeal.Stage1RunC.lean ====
/- The first pipeline's body run in case C of its conditions -/
module

public import proofs.«01_k».proof.Proof.KernelIdeal.Stage1RunB

@[expose] public section

-- the blocks' rectangles have long axes, and their membership is decided
-- by recursion over the coordinates
set_option maxRecDepth 16384

noncomputable section

namespace Cert.KernelIdeal.Stage1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : Dev nD → Valuation τ sig (Elt F))

-- (the run's proof term is large: the definition's epilogue — `abstractNestedProofs` — walks it past the default budget)
set_option maxHeartbeats 1000000 in
/-- What the body's stores leave in each output's staging memref, as pieces (last first) IN CASE C (`scf.if` 0 not taken, `scf.if` 1 taken, `scf.if` 2 taken: points 3, 7), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .vmem S3136x384 .bf16) (harg2 : arg2.IsWhole) (arg3 : Memref sig .tc .vmem S4096x384 .bf16) (harg3 : arg3.IsWhole) (arg4 : Memref sig .tc .vmem S3136x1 .f32) (harg4 : arg4.IsWhole) (arg5 : Memref sig .tc .vmem S1x1x4096 .f32) (harg5 : arg5.IsWhole) (arg6 : Memref sig .tc .vmem S3136x1 .f32) (harg6 : arg6.IsWhole) (hc0 : ¬cond0_0 i) (hc1 : cond0_1 i) (hc2 : cond0_2 i)
    (x0 : Vec F S3136x384 .bf16) (x1 : Vec F S4096x384 .bf16) (xs0 : Vec F S3136x1 .f32) :
    Σ' (L2 : List (View.Piece (Elt F) S3136x1 .f32)), Σ' (L3 : List (View.Piece (Elt F) S1x1x4096 .f32)), { LS0 : List (View.Piece (Elt F) S3136x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__stage1_kernel i arg2 harg2 arg3 harg3 arg4 harg4 arg5 harg5 arg6 harg6) K } := by
  refine ⟨?_, ?_, ?_, fun E K => ?run⟩
  case run =>
    simp only [cc0__stage1_kernel_eq_skeleton]; unfold cc0__stage1_kernel_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg2.eq_unread hf0; obtain rfl := harg3.eq_unread hf1; obtain rfl := harg6.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS0

end Cert.KernelIdeal.Stage1

end
-- ==== Proof.KernelIdeal.Stage1.lean ====
/- The first pipeline: what its body leaves at every point, its proof data and the body's obligation -/
module

public import proofs.«01_k».proof.Proof.KernelIdeal.Stage1RunC
public import Idealize.ShloMosaic.Lib.Claim

@[expose] public section

-- the blocks' rectangles have long axes, and their membership is decided
-- by recursion over the coordinates
set_option maxRecDepth 16384

noncomputable section

namespace Cert.KernelIdeal.Stage1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : Dev nD → Valuation τ sig (Elt F))
/-- Case A stores nothing into output 2 (the window is idle at its points and not written back there):
    no pieces — a placeholder (junk read back) that nothing consults, since at these points the window is neither
    written back nor read at the next point (Lib/Pipeline.lean "Idle points"). -/
def out0_A_2 (c : Dev nD) (i : grid0.Coords) (arg2 : Memref sig .tc .vmem S3136x384 .bf16) (harg2 : arg2.IsWhole) (arg3 : Memref sig .tc .vmem S4096x384 .bf16) (harg3 : arg3.IsWhole) (arg4 : Memref sig .tc .vmem S3136x1 .f32) (harg4 : arg4.IsWhole) (arg5 : Memref sig .tc .vmem S1x1x4096 .f32) (harg5 : arg5.IsWhole) (arg6 : Memref sig .tc .vmem S3136x1 .f32) (harg6 : arg6.IsWhole) (hc0 : cond0_0 i) (hc1 : ¬cond0_1 i) (hc2 : ¬cond0_2 i)
    (x0 : Vec F S3136x384 .bf16) (x1 : Vec F S4096x384 .bf16) : Vec F S3136x1 .f32 :=
  VO0_2.read (Elt F) (VO0_2.writes (Elt F) VO0_2.junk (kernelRun0_A c i arg2 harg2 arg3 harg3 arg4 harg4 arg5 harg5 arg6 harg6 hc0 hc1 hc2 x0 x1).1)

/-- Case A's pieces for output 3 tile its block (1 store of `S1x1x4096`, checked by the kernel's evaluation: Lib/Ring.lean `Piece.tiledL`, linear in the pieces, through a loop's `@[irreducible]` trip theorem too), so they cover it. -/
theorem cover0_A_3 (c : Dev nD) (i : grid0.Coords) (arg2 : Memref sig .tc .vmem S3136x384 .bf16) (harg2 : arg2.IsWhole) (arg3 : Memref sig .tc .vmem S4096x384 .bf16) (harg3 : arg3.IsWhole) (arg4 : Memref sig .tc .vmem S3136x1 .f32) (harg4 : arg4.IsWhole) (arg5 : Memref sig .tc .vmem S1x1x4096 .f32) (harg5 : arg5.IsWhole) (arg6 : Memref sig .tc .vmem S3136x1 .f32) (harg6 : arg6.IsWhole) (hc0 : cond0_0 i) (hc1 : ¬cond0_1 i) (hc2 : ¬cond0_2 i)
    (x0 : Vec F S3136x384 .bf16) (x1 : Vec F S4096x384 .bf16) (y : S1x1x4096.Idx) :
    ∃ pc ∈ (kernelRun0_A c i arg2 harg2 arg3 harg3 arg4 harg4 arg5 harg5 arg6 harg6 hc0 hc1 hc2 x0 x1).2.1, y ∈ pc.1.set :=
  View.cover_of_tiledL (kernelRun0_A c i arg2 harg2 arg3 harg3 arg4 harg4 arg5 harg5 arg6 harg6 hc0 hc1 hc2 x0 x1).2.1 S1x1x4096.size (by sl_kernel_rfl) y

/-- What case A leaves in output 3's staging buffer: its pieces read back over junk. -/
def out0_A_3 (c : Dev nD) (i : grid0.Coords) (arg2 : Memref sig .tc .vmem S3136x384 .bf16) (harg2 : arg2.IsWhole) (arg3 : Memref sig .tc .vmem S4096x384 .bf16) (harg3 : arg3.IsWhole) (arg4 : Memref sig .tc .vmem S3136x1 .f32) (harg4 : arg4.IsWhole) (arg5 : Memref sig .tc .vmem S1x1x4096 .f32) (harg5 : arg5.IsWhole) (arg6 : Memref sig .tc .vmem S3136x1 .f32) (harg6 : arg6.IsWhole) (hc0 : cond0_0 i) (hc1 : ¬cond0_1 i) (hc2 : ¬cond0_2 i)
    (x0 : Vec F S3136x384 .bf16) (x1 : Vec F S4096x384 .bf16) : Vec F S1x1x4096 .f32 :=
  VO0_3.read (Elt F) (VO0_3.writes (Elt F) VO0_3.junk (kernelRun0_A c i arg2 harg2 arg3 harg3 arg4 harg4 arg5 harg5 arg6 harg6 hc0 hc1 hc2 x0 x1).2.1)

/-- Case A's pieces for scratch `arg6`, which the kernel carries between points, cover it: 1 piece of `S3136x1` tiling it (Lib/Ring.lean `Piece.tiledL`). -/
theorem scover0_A_0 (c : Dev nD) (i : grid0.Coords) (arg2 : Memref sig .tc .vmem S3136x384 .bf16) (harg2 : arg2.IsWhole) (arg3 : Memref sig .tc .vmem S4096x384 .bf16) (harg3 : arg3.IsWhole) (arg4 : Memref sig .tc .vmem S3136x1 .f32) (harg4 : arg4.IsWhole) (arg5 : Memref sig .tc .vmem S1x1x4096 .f32) (harg5 : arg5.IsWhole) (arg6 : Memref sig .tc .vmem S3136x1 .f32) (harg6 : arg6.IsWhole) (hc0 : cond0_0 i) (hc1 : ¬cond0_1 i) (hc2 : ¬cond0_2 i)
    (x0 : Vec F S3136x384 .bf16) (x1 : Vec F S4096x384 .bf16) (y : S3136x1.Idx) :
    ∃ pc ∈ (kernelRun0_A c i arg2 harg2 arg3 harg3 arg4 harg4 arg5 harg5 arg6 harg6 hc0 hc1 hc2 x0 x1).2.2.1, y ∈ pc.1.set :=
  View.cover_of_tiledL (kernelRun0_A c i arg2 harg2 arg3 harg3 arg4 harg4 arg5 harg5 arg6 harg6 hc0 hc1 hc2 x0 x1).2.2.1 S3136x1.size (by sl_kernel_rfl) y

/-- What case A leaves in scratch `arg6`: its pieces read back over junk. -/
def sout0_A_0 (c : Dev nD) (i : grid0.Coords) (arg2 : Memref sig .tc .vmem S3136x384 .bf16) (harg2 : arg2.IsWhole) (arg3 : Memref sig .tc .vmem S4096x384 .bf16) (harg3 : arg3.IsWhole) (arg4 : Memref sig .tc .vmem S3136x1 .f32) (harg4 : arg4.IsWhole) (arg5 : Memref sig .tc .vmem S1x1x4096 .f32) (harg5 : arg5.IsWhole) (arg6 : Memref sig .tc .vmem S3136x1 .f32) (harg6 : arg6.IsWhole) (hc0 : cond0_0 i) (hc1 : ¬cond0_1 i) (hc2 : ¬cond0_2 i)
    (x0 : Vec F S3136x384 .bf16) (x1 : Vec F S4096x384 .bf16) : Vec F S3136x1 .f32 :=
  VS0_0.read (Elt F) (VS0_0.writes (Elt F) VS0_0.junk (kernelRun0_A c i arg2 harg2 arg3 harg3 arg4 harg4 arg5 harg5 arg6 harg6 hc0 hc1 hc2 x0 x1).2.2.1)

/-- Case B stores nothing into output 2 (the window is idle at its points and not written back there):
    no pieces — a placeholder (junk read back) that nothing consults, since at these points the window is neither
    written back nor read at the next point (Lib/Pipeline.lean "Idle points"). -/
def out0_B_2 (c : Dev nD) (i : grid0.Coords) (arg2 : Memref sig .tc .vmem S3136x384 .bf16) (harg2 : arg2.IsWhole) (arg3 : Memref sig .tc .vmem S4096x384 .bf16) (harg3 : arg3.IsWhole) (arg4 : Memref sig .tc .vmem S3136x1 .f32) (harg4 : arg4.IsWhole) (arg5 : Memref sig .tc .vmem S1x1x4096 .f32) (harg5 : arg5.IsWhole) (arg6 : Memref sig .tc .vmem S3136x1 .f32) (harg6 : arg6.IsWhole) (hc0 : ¬cond0_0 i) (hc1 : cond0_1 i) (hc2 : ¬cond0_2 i)
    (x0 : Vec F S3136x384 .bf16) (x1 : Vec F S4096x384 .bf16) (xs0 : Vec F S3136x1 .f32) : Vec F S3136x1 .f32 :=
  VO0_2.read (Elt F) (VO0_2.writes (Elt F) VO0_2.junk (kernelRun0_B c i arg2 harg2 arg3 harg3 arg4 harg4 arg5 harg5 arg6 harg6 hc0 hc1 hc2 x0 x1 xs0).1)

/-- Case B's pieces for output 3 tile its block (1 store of `S1x1x4096`, checked by the kernel's evaluation: Lib/Ring.lean `Piece.tiledL`, linear in the pieces, through a loop's `@[irreducible]` trip theorem too), so they cover it. -/
theorem cover0_B_3 (c : Dev nD) (i : grid0.Coords) (arg2 : Memref sig .tc .vmem S3136x384 .bf16) (harg2 : arg2.IsWhole) (arg3 : Memref sig .tc .vmem S4096x384 .bf16) (harg3 : arg3.IsWhole) (arg4 : Memref sig .tc .vmem S3136x1 .f32) (harg4 : arg4.IsWhole) (arg5 : Memref sig .tc .vmem S1x1x4096 .f32) (harg5 : arg5.IsWhole) (arg6 : Memref sig .tc .vmem S3136x1 .f32) (harg6 : arg6.IsWhole) (hc0 : ¬cond0_0 i) (hc1 : cond0_1 i) (hc2 : ¬cond0_2 i)
    (x0 : Vec F S3136x384 .bf16) (x1 : Vec F S4096x384 .bf16) (xs0 : Vec F S3136x1 .f32) (y : S1x1x4096.Idx) :
    ∃ pc ∈ (kernelRun0_B c i arg2 harg2 arg3 harg3 arg4 harg4 arg5 harg5 arg6 harg6 hc0 hc1 hc2 x0 x1 xs0).2.1, y ∈ pc.1.set :=
  View.cover_of_tiledL (kernelRun0_B c i arg2 harg2 arg3 harg3 arg4 harg4 arg5 harg5 arg6 harg6 hc0 hc1 hc2 x0 x1 xs0).2.1 S1x1x4096.size (by sl_kernel_rfl) y

/-- What case B leaves in output 3's staging buffer: its pieces read back over junk. -/
def out0_B_3 (c : Dev nD) (i : grid0.Coords) (arg2 : Memref sig .tc .vmem S3136x384 .bf16) (harg2 : arg2.IsWhole) (arg3 : Memref sig .tc .vmem S4096x384 .bf16) (harg3 : arg3.IsWhole) (arg4 : Memref sig .tc .vmem S3136x1 .f32) (harg4 : arg4.IsWhole) (arg5 : Memref sig .tc .vmem S1x1x4096 .f32) (harg5 : arg5.IsWhole) (arg6 : Memref sig .tc .vmem S3136x1 .f32) (harg6 : arg6.IsWhole) (hc0 : ¬cond0_0 i) (hc1 : cond0_1 i) (hc2 : ¬cond0_2 i)
    (x0 : Vec F S3136x384 .bf16) (x1 : Vec F S4096x384 .bf16) (xs0 : Vec F S3136x1 .f32) : Vec F S1x1x4096 .f32 :=
  VO0_3.read (Elt F) (VO0_3.writes (Elt F) VO0_3.junk (kernelRun0_B c i arg2 harg2 arg3 harg3 arg4 harg4 arg5 harg5 arg6 harg6 hc0 hc1 hc2 x0 x1 xs0).2.1)

/-- Case B's pieces for scratch `arg6`, which the kernel carries between points, cover it: 1 piece of `S3136x1` tiling it (Lib/Ring.lean `Piece.tiledL`). -/
theorem scover0_B_0 (c : Dev nD) (i : grid0.Coords) (arg2 : Memref sig .tc .vmem S3136x384 .bf16) (harg2 : arg2.IsWhole) (arg3 : Memref sig .tc .vmem S4096x384 .bf16) (harg3 : arg3.IsWhole) (arg4 : Memref sig .tc .vmem S3136x1 .f32) (harg4 : arg4.IsWhole) (arg5 : Memref sig .tc .vmem S1x1x4096 .f32) (harg5 : arg5.IsWhole) (arg6 : Memref sig .tc .vmem S3136x1 .f32) (harg6 : arg6.IsWhole) (hc0 : ¬cond0_0 i) (hc1 : cond0_1 i) (hc2 : ¬cond0_2 i)
    (x0 : Vec F S3136x384 .bf16) (x1 : Vec F S4096x384 .bf16) (xs0 : Vec F S3136x1 .f32) (y : S3136x1.Idx) :
    ∃ pc ∈ (kernelRun0_B c i arg2 harg2 arg3 harg3 arg4 harg4 arg5 harg5 arg6 harg6 hc0 hc1 hc2 x0 x1 xs0).2.2.1, y ∈ pc.1.set :=
  View.cover_of_tiledL (kernelRun0_B c i arg2 harg2 arg3 harg3 arg4 harg4 arg5 harg5 arg6 harg6 hc0 hc1 hc2 x0 x1 xs0).2.2.1 S3136x1.size (by sl_kernel_rfl) y

/-- What case B leaves in scratch `arg6`: its pieces read back over junk. -/
def sout0_B_0 (c : Dev nD) (i : grid0.Coords) (arg2 : Memref sig .tc .vmem S3136x384 .bf16) (harg2 : arg2.IsWhole) (arg3 : Memref sig .tc .vmem S4096x384 .bf16) (harg3 : arg3.IsWhole) (arg4 : Memref sig .tc .vmem S3136x1 .f32) (harg4 : arg4.IsWhole) (arg5 : Memref sig .tc .vmem S1x1x4096 .f32) (harg5 : arg5.IsWhole) (arg6 : Memref sig .tc .vmem S3136x1 .f32) (harg6 : arg6.IsWhole) (hc0 : ¬cond0_0 i) (hc1 : cond0_1 i) (hc2 : ¬cond0_2 i)
    (x0 : Vec F S3136x384 .bf16) (x1 : Vec F S4096x384 .bf16) (xs0 : Vec F S3136x1 .f32) : Vec F S3136x1 .f32 :=
  VS0_0.read (Elt F) (VS0_0.writes (Elt F) VS0_0.junk (kernelRun0_B c i arg2 harg2 arg3 harg3 arg4 harg4 arg5 harg5 arg6 harg6 hc0 hc1 hc2 x0 x1 xs0).2.2.1)

/-- Case C's pieces for output 2 tile its block (1 store of `S3136x1`, checked by the kernel's evaluation: Lib/Ring.lean `Piece.tiledL`, linear in the pieces, through a loop's `@[irreducible]` trip theorem too), so they cover it. -/
theorem cover0_C_2 (c : Dev nD) (i : grid0.Coords) (arg2 : Memref sig .tc .vmem S3136x384 .bf16) (harg2 : arg2.IsWhole) (arg3 : Memref sig .tc .vmem S4096x384 .bf16) (harg3 : arg3.IsWhole) (arg4 : Memref sig .tc .vmem S3136x1 .f32) (harg4 : arg4.IsWhole) (arg5 : Memref sig .tc .vmem S1x1x4096 .f32) (harg5 : arg5.IsWhole) (arg6 : Memref sig .tc .vmem S3136x1 .f32) (harg6 : arg6.IsWhole) (hc0 : ¬cond0_0 i) (hc1 : cond0_1 i) (hc2 : cond0_2 i)
    (x0 : Vec F S3136x384 .bf16) (x1 : Vec F S4096x384 .bf16) (xs0 : Vec F S3136x1 .f32) (y : S3136x1.Idx) :
    ∃ pc ∈ (kernelRun0_C c i arg2 harg2 arg3 harg3 arg4 harg4 arg5 harg5 arg6 harg6 hc0 hc1 hc2 x0 x1 xs0).1, y ∈ pc.1.set :=
  View.cover_of_tiledL (kernelRun0_C c i arg2 harg2 arg3 harg3 arg4 harg4 arg5 harg5 arg6 harg6 hc0 hc1 hc2 x0 x1 xs0).1 S3136x1.size (by sl_kernel_rfl) y

/-- What case C leaves in output 2's staging buffer: its pieces read back over junk. -/
def out0_C_2 (c : Dev nD) (i : grid0.Coords) (arg2 : Memref sig .tc .vmem S3136x384 .bf16) (harg2 : arg2.IsWhole) (arg3 : Memref sig .tc .vmem S4096x384 .bf16) (harg3 : arg3.IsWhole) (arg4 : Memref sig .tc .vmem S3136x1 .f32) (harg4 : arg4.IsWhole) (arg5 : Memref sig .tc .vmem S1x1x4096 .f32) (harg5 : arg5.IsWhole) (arg6 : Memref sig .tc .vmem S3136x1 .f32) (harg6 : arg6.IsWhole) (hc0 : ¬cond0_0 i) (hc1 : cond0_1 i) (hc2 : cond0_2 i)
    (x0 : Vec F S3136x384 .bf16) (x1 : Vec F S4096x384 .bf16) (xs0 : Vec F S3136x1 .f32) : Vec F S3136x1 .f32 :=
  VO0_2.read (Elt F) (VO0_2.writes (Elt F) VO0_2.junk (kernelRun0_C c i arg2 harg2 arg3 harg3 arg4 harg4 arg5 harg5 arg6 harg6 hc0 hc1 hc2 x0 x1 xs0).1)

/-- Case C's pieces for output 3 tile its block (1 store of `S1x1x4096`, checked by the kernel's evaluation: Lib/Ring.lean `Piece.tiledL`, linear in the pieces, through a loop's `@[irreducible]` trip theorem too), so they cover it. -/
theorem cover0_C_3 (c : Dev nD) (i : grid0.Coords) (arg2 : Memref sig .tc .vmem S3136x384 .bf16) (harg2 : arg2.IsWhole) (arg3 : Memref sig .tc .vmem S4096x384 .bf16) (harg3 : arg3.IsWhole) (arg4 : Memref sig .tc .vmem S3136x1 .f32) (harg4 : arg4.IsWhole) (arg5 : Memref sig .tc .vmem S1x1x4096 .f32) (harg5 : arg5.IsWhole) (arg6 : Memref sig .tc .vmem S3136x1 .f32) (harg6 : arg6.IsWhole) (hc0 : ¬cond0_0 i) (hc1 : cond0_1 i) (hc2 : cond0_2 i)
    (x0 : Vec F S3136x384 .bf16) (x1 : Vec F S4096x384 .bf16) (xs0 : Vec F S3136x1 .f32) (y : S1x1x4096.Idx) :
    ∃ pc ∈ (kernelRun0_C c i arg2 harg2 arg3 harg3 arg4 harg4 arg5 harg5 arg6 harg6 hc0 hc1 hc2 x0 x1 xs0).2.1, y ∈ pc.1.set :=
  View.cover_of_tiledL (kernelRun0_C c i arg2 harg2 arg3 harg3 arg4 harg4 arg5 harg5 arg6 harg6 hc0 hc1 hc2 x0 x1 xs0).2.1 S1x1x4096.size (by sl_kernel_rfl) y

/-- What case C leaves in output 3's staging buffer: its pieces read back over junk. -/
def out0_C_3 (c : Dev nD) (i : grid0.Coords) (arg2 : Memref sig .tc .vmem S3136x384 .bf16) (harg2 : arg2.IsWhole) (arg3 : Memref sig .tc .vmem S4096x384 .bf16) (harg3 : arg3.IsWhole) (arg4 : Memref sig .tc .vmem S3136x1 .f32) (harg4 : arg4.IsWhole) (arg5 : Memref sig .tc .vmem S1x1x4096 .f32) (harg5 : arg5.IsWhole) (arg6 : Memref sig .tc .vmem S3136x1 .f32) (harg6 : arg6.IsWhole) (hc0 : ¬cond0_0 i) (hc1 : cond0_1 i) (hc2 : cond0_2 i)
    (x0 : Vec F S3136x384 .bf16) (x1 : Vec F S4096x384 .bf16) (xs0 : Vec F S3136x1 .f32) : Vec F S1x1x4096 .f32 :=
  VO0_3.read (Elt F) (VO0_3.writes (Elt F) VO0_3.junk (kernelRun0_C c i arg2 harg2 arg3 harg3 arg4 harg4 arg5 harg5 arg6 harg6 hc0 hc1 hc2 x0 x1 xs0).2.1)

/-- Case C's pieces for scratch `arg6`, which the kernel carries between points, cover it: 1 piece of `S3136x1` tiling it (Lib/Ring.lean `Piece.tiledL`). -/
theorem scover0_C_0 (c : Dev nD) (i : grid0.Coords) (arg2 : Memref sig .tc .vmem S3136x384 .bf16) (harg2 : arg2.IsWhole) (arg3 : Memref sig .tc .vmem S4096x384 .bf16) (harg3 : arg3.IsWhole) (arg4 : Memref sig .tc .vmem S3136x1 .f32) (harg4 : arg4.IsWhole) (arg5 : Memref sig .tc .vmem S1x1x4096 .f32) (harg5 : arg5.IsWhole) (arg6 : Memref sig .tc .vmem S3136x1 .f32) (harg6 : arg6.IsWhole) (hc0 : ¬cond0_0 i) (hc1 : cond0_1 i) (hc2 : cond0_2 i)
    (x0 : Vec F S3136x384 .bf16) (x1 : Vec F S4096x384 .bf16) (xs0 : Vec F S3136x1 .f32) (y : S3136x1.Idx) :
    ∃ pc ∈ (kernelRun0_C c i arg2 harg2 arg3 harg3 arg4 harg4 arg5 harg5 arg6 harg6 hc0 hc1 hc2 x0 x1 xs0).2.2.1, y ∈ pc.1.set :=
  View.cover_of_tiledL (kernelRun0_C c i arg2 harg2 arg3 harg3 arg4 harg4 arg5 harg5 arg6 harg6 hc0 hc1 hc2 x0 x1 xs0).2.2.1 S3136x1.size (by sl_kernel_rfl) y

/-- What case C leaves in scratch `arg6`: its pieces read back over junk. -/
def sout0_C_0 (c : Dev nD) (i : grid0.Coords) (arg2 : Memref sig .tc .vmem S3136x384 .bf16) (harg2 : arg2.IsWhole) (arg3 : Memref sig .tc .vmem S4096x384 .bf16) (harg3 : arg3.IsWhole) (arg4 : Memref sig .tc .vmem S3136x1 .f32) (harg4 : arg4.IsWhole) (arg5 : Memref sig .tc .vmem S1x1x4096 .f32) (harg5 : arg5.IsWhole) (arg6 : Memref sig .tc .vmem S3136x1 .f32) (harg6 : arg6.IsWhole) (hc0 : ¬cond0_0 i) (hc1 : cond0_1 i) (hc2 : cond0_2 i)
    (x0 : Vec F S3136x384 .bf16) (x1 : Vec F S4096x384 .bf16) (xs0 : Vec F S3136x1 .f32) : Vec F S3136x1 .f32 :=
  VS0_0.read (Elt F) (VS0_0.writes (Elt F) VS0_0.junk (kernelRun0_C c i arg2 harg2 arg3 harg3 arg4 harg4 arg5 harg5 arg6 harg6 hc0 hc1 hc2 x0 x1 xs0).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S3136x1 .f32 × Vec F S1x1x4096 .f32 × Vec F S3136x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩))
  | n + 1, hn =>
    if h0 : (n + 1) % 4 = 0 then
      if h1 : 1 ≤ (n + 1) % 4 then
        False.elim (by have hN : n + 1 < 8 := lt_of_lt_of_eq hn (show cfg0.N = 8 from N_0); omega)
      else
        if h2 : (n + 1) % 4 = 3 then
          False.elim (by have hN : n + 1 < 8 := lt_of_lt_of_eq hn (show cfg0.N = 8 from N_0); omega)
        else
          (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩))
    else
      if h1 : 1 ≤ (n + 1) % 4 then
        if h2 : (n + 1) % 4 = 3 then
          (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk m c 0 ⟨n + 1, hn⟩) (iblk m c 1 ⟨n + 1, hn⟩) (outsAt0 c n (Nat.lt_of_succ_lt hn)).2.2, out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk m c 0 ⟨n + 1, hn⟩) (iblk m c 1 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) ((hcond0_2 ⟨n + 1, hn⟩).mpr h2) (iblk m c 0 ⟨n + 1, hn⟩) (iblk m c 1 ⟨n + 1, hn⟩) (outsAt0 c n (Nat.lt_of_succ_lt hn)).2.2)
        else
          (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (outsAt0 c n (Nat.lt_of_succ_lt hn)).2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (outsAt0 c n (Nat.lt_of_succ_lt hn)).2.2)
      else
        False.elim (by have hN : n + 1 < 8 := lt_of_lt_of_eq hn (show cfg0.N = 8 from N_0); omega)

/-- `outsAt0` at a point of case A: that case's contents. -/
theorem outsAt0_A (c : Dev nD) (t : Fin cfg0.N) (h0 : t.val % 4 = 0) (h1 : ¬1 ≤ t.val % 4) (h2 : ¬t.val % 4 = 3) :
    outsAt0 m c t.val t.isLt = (out0_A_2 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (fun h => h2 ((hcond0_2 t).mp h)) (iblk m c 0 t) (iblk m c 1 t), out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (fun h => h2 ((hcond0_2 t).mp h)) (iblk m c 0 t) (iblk m c 1 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (fun h => h2 ((hcond0_2 t).mp h)) (iblk m c 0 t) (iblk m c 1 t)) := by
  obtain ⟨n, hn⟩ := t
  cases n with
  | zero => exact rfl
  | succ n => exact (dif_pos h0).trans ((dif_neg h1).trans ((dif_neg h2).trans rfl))

/-- `outsAt0` at a point of case B: that case's contents, over what the point before left. -/
theorem outsAt0_B (c : Dev nD) (t : Fin cfg0.N) (h0 : ¬t.val % 4 = 0) (h1 : 1 ≤ t.val % 4) (h2 : ¬t.val % 4 = 3) :
    outsAt0 m c t.val t.isLt = (out0_B_2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (fun h => h2 ((hcond0_2 t).mp h)) (iblk m c 0 t) (iblk m c 1 t) (outsAt0 m c (t.val - 1) (Nat.lt_of_le_of_lt (Nat.sub_le _ _) t.isLt)).2.2, out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (fun h => h2 ((hcond0_2 t).mp h)) (iblk m c 0 t) (iblk m c 1 t) (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (fun h => h2 ((hcond0_2 t).mp h)) (iblk m c 0 t) (iblk m c 1 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C: that case's contents, over what the point before left. -/
theorem outsAt0_C (c : Dev nD) (t : Fin cfg0.N) (h0 : ¬t.val % 4 = 0) (h1 : 1 ≤ t.val % 4) (h2 : t.val % 4 = 3) :
    outsAt0 m c t.val t.isLt = (out0_C_2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) ((hcond0_2 t).mpr h2) (iblk m c 0 t) (iblk m c 1 t) (outsAt0 m c (t.val - 1) (Nat.lt_of_le_of_lt (Nat.sub_le _ _) t.isLt)).2.2, out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) ((hcond0_2 t).mpr h2) (iblk m c 0 t) (iblk m c 1 t) (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) ((hcond0_2 t).mpr h2) (iblk m c 0 t) (iblk m c 1 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ Rest (F := F) c)

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2)) ∗ Rest (F := F) c) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ Rest (F := F) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dat m c).A w = V m c (Pipeline.arrRef spec0 w) := by
  dsimp only [dat]

/-- The invariant at a point's start (the proof data at `t.castSucc`), restated at `t.val`. -/
theorem PhiS_castSucc (c : Dev nD) (t : Fin cfg0.N) :
    (dat m c).Φ t.castSucc = PhiS m c t.val (Nat.le_of_lt t.isLt) := by
  dsimp only [dat]; exact Pipeline.Dat.Φ_castSucc (PhiS m c) t

/-- What the body leaves, window by window (the proof data's `match` reduced by `dsimp`). -/
theorem after0_0 (c : Dev nD) (t : Fin cfg0.N) : (dat m c).after 0 t = iblk m c 0 t := by dsimp only [dat]
theorem after0_1 (c : Dev nD) (t : Fin cfg0.N) : (dat m c).after 1 t = iblk m c 1 t := by dsimp only [dat]
theorem after0_2 (c : Dev nD) (t : Fin cfg0.N) : (dat m c).after 2 t = (outsAt0 m c t.val t.isLt).1 := by dsimp only [dat]
theorem after0_3 (c : Dev nD) (t : Fin cfg0.N) : (dat m c).after 3 t = (outsAt0 m c t.val t.isLt).2.1 := by dsimp only [dat]

/-- Each input's current staging buffer holds its block at every point, fetched there or not (`beforeK_W_of`). -/
theorem before0_0 (c : Dev nD) (t : Fin cfg0.N) (d) : (dat m c).before 0 t d = iblk m c 0 t :=
  before0_0_of m (dat m c) (A_eq m c 0) (after0_0 m c) t d
theorem before0_1 (c : Dev nD) (t : Fin cfg0.N) (d) : (dat m c).before 1 t d = iblk m c 1 t :=
  before0_1_of m (dat m c) (A_eq m c 1) (after0_1 m c) t d

/-! ## The body obligation, at a generic point -/

/-- What the body is called with at point `t` (Lib/Pipeline.lean `BodyObligation`'s precondition, the windows one by one), -/
def bodyPre (c : Dev nD) (t : Fin cfg0.N) : sProp 𝕄 :=
  iprop((dat m c).Φ t.castSucc ∗ (dat m c).owesAt () t.castSucc
    ∗ (∃ d, owns (c : Thread nD τ) (ms0_0 t) fullShare ((dat m c).before 0 t d))
    ∗ (∃ d, owns (c : Thread nD τ) (ms0_1 t) fullShare ((dat m c).before 1 t d))
    ∗ (∃ d, owns (c : Thread nD τ) (ms0_2 t) fullShare ((dat m c).before 2 t d))
    ∗ (∃ d, owns (c : Thread nD τ) (ms0_3 t) fullShare ((dat m c).before 3 t d)))

/-- and what it returns. -/
def bodyPost (c : Dev nD) (t : Fin cfg0.N) : sProp 𝕄 :=
  iprop((dat m c).Φ t.succ ∗ (dat m c).owesAt () t.succ
    ∗ (dat m c).leavesExact 0 t
    ∗ (dat m c).leavesExact 1 t
    ∗ (dat m c).leavesExact 2 t
    ∗ (dat m c).leavesExact 3 t)

set_option maxHeartbeats 4800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dat m c).owesAt () t.succ = (dat m c).owesAt () t.castSucc from rfl]
  rw [show (dat m c).Φ t.succ = PhiS m c (t.val + 1) t.isLt from rfl, PhiS_succ]
  have hN : t.val < 8 := lt_of_lt_of_eq t.isLt (show cfg0.N = 8 from N_0)
  by_cases h0 : t.val % 4 = 0
  · by_cases h1 : 1 ≤ t.val % 4
    · exfalso; omega
    · by_cases h2 : t.val % 4 = 3
      · exfalso; omega
      · rw [show (dat m c).leavesExact 0 t = owns (c : Thread nD τ) (ms0_0 t) fullShare ((dat m c).after 0 t) from by
      unfold Dat.leavesExact; rw [liveAt0_0 t], after0_0]
        rw [show (dat m c).leavesExact 1 t = owns (c : Thread nD τ) (ms0_1 t) fullShare ((dat m c).after 1 t) from by
      unfold Dat.leavesExact; rw [liveAt0_1 t], after0_1]
        rw [Dat.leavesExact_idle (dat m c) 2 t (idleAt0_2_A t ((hcond0_0 t).mpr h0) (fun h => h1 ((hcond0_1 t).mp h)) (fun h => h2 ((hcond0_2 t).mp h))) (noFlush0_2_A t ((hcond0_0 t).mpr h0) (fun h => h1 ((hcond0_1 t).mp h)) (fun h => h2 ((hcond0_2 t).mp h)))]
        rw [show (dat m c).leavesExact 3 t = owns (c : Thread nD τ) (ms0_3 t) fullShare ((dat m c).after 3 t) from by
      unfold Dat.leavesExact; rw [liveAt0_3 t], after0_3]
        by_cases hz : t.val = 0
        · rw [PhiS_castSucc m c t, PhiS_zero m c _ _ hz, PhiA0_eq]
          rw [outsAt0_A m c t h0 h1 h2]
          unfold out0_A_3 sout0_A_0; (try dsimp only)
          iintro ⟨⟨HS0, Hg⟩, Ho, ⟨%d0, H0⟩, ⟨%d1, H1⟩, ⟨%d2, H2⟩, ⟨%d3, H3⟩⟩
          iapply ((kernelRun0_A c (grid0.coords t) _ _ _ _ _ _ _ _ _ _ ((hcond0_0 t).mpr h0) (fun h => h1 ((hcond0_1 t).mp h)) (fun h => h2 ((hcond0_2 t).mp h)) (iblk m c 0 t) (iblk m c 1 t)).2.2.2 _ Set.univ _)
          isplitl [H0]; · iexact H0
          isplitl [H1]; · iexact H1
          isplitl [H2]; · iexact H2
          isplitl [H3]; · iexists _; iexact H3
          isplitl [HS0]; · iexact HS0
          iintro ⟨H0, H1, H2, ⟨%e3, H3⟩, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _)
            iexact Hg
          isplitl [Ho]; · iexact Ho
          isplitl [H0]; · iexact H0
          isplitl [H1]; · iexact H1
          isplitl [H2]; · iexists _; iexact H2
          unfold owns; iexists _; isplitr
          swap; · iexact H3
          ipureintro; exact View.read_writes_of_cover _ _ _ _ _ (cover0_A_3 c _ _ _ _ _ _ _ _ _ _ _ _ _ _ _ _)
        · rw [PhiS_castSucc m c t, PhiS_pos m c _ _ hz]
          rw [outsAt0_A m c t h0 h1 h2]
          unfold out0_A_3 sout0_A_0; (try dsimp only)
          iintro ⟨⟨HS0, Hg⟩, Ho, ⟨%d0, H0⟩, ⟨%d1, H1⟩, ⟨%d2, H2⟩, ⟨%d3, H3⟩⟩
          iapply ((kernelRun0_A c (grid0.coords t) _ _ _ _ _ _ _ _ _ _ ((hcond0_0 t).mpr h0) (fun h => h1 ((hcond0_1 t).mp h)) (fun h => h2 ((hcond0_2 t).mp h)) (iblk m c 0 t) (iblk m c 1 t)).2.2.2 _ Set.univ _)
          isplitl [H0]; · iexact H0
          isplitl [H1]; · iexact H1
          isplitl [H2]; · iexact H2
          isplitl [H3]; · iexists _; iexact H3
          isplitl [HS0]; · iexists _; iexact HS0
          iintro ⟨H0, H1, H2, ⟨%e3, H3⟩, ⟨%es0, HS0⟩⟩
          isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _)
            iexact Hg
          isplitl [Ho]; · iexact Ho
          isplitl [H0]; · iexact H0
          isplitl [H1]; · iexact H1
          isplitl [H2]; · iexists _; iexact H2
          unfold owns; iexists _; isplitr
          swap; · iexact H3
          ipureintro; exact View.read_writes_of_cover _ _ _ _ _ (cover0_A_3 c _ _ _ _ _ _ _ _ _ _ _ _ _ _ _ _)
  · by_cases h1 : 1 ≤ t.val % 4
    · by_cases h2 : t.val % 4 = 3
      · rw [show (dat m c).leavesExact 0 t = owns (c : Thread nD τ) (ms0_0 t) fullShare ((dat m c).after 0 t) from by
      unfold Dat.leavesExact; rw [liveAt0_0 t], after0_0]
        rw [show (dat m c).leavesExact 1 t = owns (c : Thread nD τ) (ms0_1 t) fullShare ((dat m c).after 1 t) from by
      unfold Dat.leavesExact; rw [liveAt0_1 t], after0_1]
        rw [show (dat m c).leavesExact 2 t = owns (c : Thread nD τ) (ms0_2 t) fullShare ((dat m c).after 2 t) from by
      unfold Dat.leavesExact; rw [liveAt0_2_C t (fun h => h0 ((hcond0_0 t).mp h)) ((hcond0_1 t).mpr h1) ((hcond0_2 t).mpr h2)], after0_2]
        rw [show (dat m c).leavesExact 3 t = owns (c : Thread nD τ) (ms0_3 t) fullShare ((dat m c).after 3 t) from by
      unfold Dat.leavesExact; rw [liveAt0_3 t], after0_3]
        by_cases hz : t.val = 0
        · exfalso; have hN : t.val < 8 := lt_of_lt_of_eq t.isLt (show cfg0.N = 8 from N_0); omega
        · rw [PhiS_castSucc m c t, PhiS_pos m c _ _ hz]
          rw [outsAt0_C m c t h0 h1 h2]
          unfold out0_C_2 out0_C_3 sout0_C_0; (try dsimp only)
          iintro ⟨⟨HS0, Hg⟩, Ho, ⟨%d0, H0⟩, ⟨%d1, H1⟩, ⟨%d2, H2⟩, ⟨%d3, H3⟩⟩
          iapply ((kernelRun0_C c (grid0.coords t) _ _ _ _ _ _ _ _ _ _ (fun h => h0 ((hcond0_0 t).mp h)) ((hcond0_1 t).mpr h1) ((hcond0_2 t).mpr h2) (iblk m c 0 t) (iblk m c 1 t) _).2.2.2 Set.univ _)
          isplitl [H0]; · iexact H0
          isplitl [H1]; · iexact H1
          isplitl [H2]; · iexists _; iexact H2
          isplitl [H3]; · iexists _; iexact H3
          isplitl [HS0]; · iexact HS0
          iintro ⟨H0, H1, ⟨%e2, H2⟩, ⟨%e3, H3⟩, ⟨%es0, HS0⟩⟩
          isplitl [HS0 Hg]
          · isplitl [HS0]
            · unfold owns; iexists _; isplitr
              swap; · iexact HS0
              ipureintro; exact View.read_writes_of_cover _ _ _ _ _ (scover0_C_0 c _ _ _ _ _ _ _ _ _ _ _ _ _ _ _ _ _)
            iexact Hg
          isplitl [Ho]; · iexact Ho
          isplitl [H0]; · iexact H0
          isplitl [H1]; · iexact H1
          isplitl [H2]
          · unfold owns; iexists _; isplitr
            swap; · iexact H2
            ipureintro; exact View.read_writes_of_cover _ _ _ _ _ (cover0_C_2 c _ _ _ _ _ _ _ _ _ _ _ _ _ _ _ _ _)
          unfold owns; iexists _; isplitr
          swap; · iexact H3
          ipureintro; exact View.read_writes_of_cover _ _ _ _ _ (cover0_C_3 c _ _ _ _ _ _ _ _ _ _ _ _ _ _ _ _ _)
      · rw [show (dat m c).leavesExact 0 t = owns (c : Thread nD τ) (ms0_0 t) fullShare ((dat m c).after 0 t) from by
      unfold Dat.leavesExact; rw [liveAt0_0 t], after0_0]
        rw [show (dat m c).leavesExact 1 t = owns (c : Thread nD τ) (ms0_1 t) fullShare ((dat m c).after 1 t) from by
      unfold Dat.leavesExact; rw [liveAt0_1 t], after0_1]
        rw [Dat.leavesExact_idle (dat m c) 2 t (idleAt0_2_B t (fun h => h0 ((hcond0_0 t).mp h)) ((hcond0_1 t).mpr h1) (fun h => h2 ((hcond0_2 t).mp h))) (noFlush0_2_B t (fun h => h0 ((hcond0_0 t).mp h)) ((hcond0_1 t).mpr h1) (fun h => h2 ((hcond0_2 t).mp h)))]
        rw [show (dat m c).leavesExact 3 t = owns (c : Thread nD τ) (ms0_3 t) fullShare ((dat m c).after 3 t) from by
      unfold Dat.leavesExact; rw [liveAt0_3 t], after0_3]
        by_cases hz : t.val = 0
        · exfalso; have hN : t.val < 8 := lt_of_lt_of_eq t.isLt (show cfg0.N = 8 from N_0); omega
        · rw [PhiS_castSucc m c t, PhiS_pos m c _ _ hz]
          rw [outsAt0_B m c t h0 h1 h2]
          unfold out0_B_3 sout0_B_0; (try dsimp only)
          iintro ⟨⟨HS0, Hg⟩, Ho, ⟨%d0, H0⟩, ⟨%d1, H1⟩, ⟨%d2, H2⟩, ⟨%d3, H3⟩⟩
          iapply ((kernelRun0_B c (grid0.coords t) _ _ _ _ _ _ _ _ _ _ (fun h => h0 ((hcond0_0 t).mp h)) ((hcond0_1 t).mpr h1) (fun h => h2 ((hcond0_2 t).mp h)) (iblk m c 0 t) (iblk m c 1 t) _).2.2.2 _ Set.univ _)
          isplitl [H0]; · iexact H0
          isplitl [H1]; · iexact H1
          isplitl [H2]; · iexact H2
          isplitl [H3]; · iexists _; iexact H3
          isplitl [HS0]; · iexact HS0
          iintro ⟨H0, H1, H2, ⟨%e3, H3⟩, ⟨%es0, HS0⟩⟩
          isplitl [HS0 Hg]
          · isplitl [HS0]
            · unfold owns; iexists _; isplitr
              swap; · iexact HS0
              ipureintro; exact View.read_writes_of_cover _ _ _ _ _ (scover0_B_0 c _ _ _ _ _ _ _ _ _ _ _ _ _ _ _ _ _)
            iexact Hg
          isplitl [Ho]; · iexact Ho
          isplitl [H0]; · iexact H0
          isplitl [H1]; · iexact H1
          isplitl [H2]; · iexists _; iexact H2
          unfold owns; iexists _; isplitr
          swap; · iexact H3
          ipureintro; exact View.read_writes_of_cover _ _ _ _ _ (cover0_B_3 c _ _ _ _ _ _ _ _ _ _ _ _ _ _ _ _ _)
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dat (F := F) m c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dat m c).Φ 0 := by
  rw [show (dat m c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dat m c).Φ t ⊢ Pipeline.ΦA spec0 c := by
  rw [show (dat m c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dat m c).Φ (Fin.last cfg0.N) ⊢ Pipeline.ΦA spec0 c :=
  Phi_out m c _ (by rw [Fin.val_last]; have : cfg0.N = 8 := N_0; omega)

end Cert.KernelIdeal.Stage1

end
-- ==== Proof.KernelIdeal.Stage2.lean ====
/- The second pipeline, a single point: what its body leaves, its proof data and the body's obligation -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- the blocks' rectangles have long axes, and their membership is decided
-- by recursion over the coordinates
set_option maxRecDepth 16384

noncomputable section

namespace Cert.KernelIdeal.Stage2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : Dev nD → Valuation τ sig (Elt F))
/-- The device's buffers when the region is entered. -/
abbrev V (c : Dev nD) (b : Ref sig .tc) : Buf (Elt F) ((c : Thread nD τ).loc b) := m c (Proc.devRef .tc b)

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V m c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V m c (Pipeline.arrRef spec1 0))
    (hafter : ∀ t, dat.after 0 t = iblk m c 0 t) (t : Fin cfg1.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V m c (Pipeline.arrRef spec1 1))
    (hafter : ∀ t, dat.after 1 t = iblk m c 1 t) (t : Fin cfg1.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V m c (Pipeline.arrRef spec1 2))
    (hafter : ∀ t, dat.after 2 t = iblk m c 2 t) (t : Fin cfg1.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V m c (Pipeline.arrRef spec1 3))
    (hafter : ∀ t, dat.after 3 t = iblk m c 3 t) (t : Fin cfg1.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V m c (Pipeline.arrRef spec1 4))
    (hafter : ∀ t, dat.after 4 t = iblk m c 4 t) (t : Fin cfg1.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V m c (Pipeline.arrRef spec1 5))
    (hafter : ∀ t, dat.after 5 t = iblk m c 5 t) (t : Fin cfg1.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r1_0 : Rect S8x784 := Rect.unit (s := S8x784) ![0, 0] S8x784.size inb_S8x784_S8x784_0_0
abbrev r1_1 : Rect S6272x384 := Rect.unit (s := S6272x384) ![0, 0] S6272x384.size inb_S6272x384_S6272x384_0_0
abbrev r1_2 : Rect S16384x384 := Rect.unit (s := S16384x384) ![0, 0] S16384x384.size inb_S16384x384_S16384x384_0_0
abbrev r1_3 : Rect S1x16384 := Rect.unit (s := S1x16384) ![0, 0] S1x16384.size inb_S1x16384_S1x16384_0_0
abbrev r1_4 : Rect S8x1 := Rect.unit (s := S8x1) ![0, 0] S8x1.size inb_S8x1_S8x1_0_0
abbrev r1_5 : Rect S224x28 := Rect.unit (s := S224x28) ![0, 0] S224x28.size inb_S224x28_S224x28_0_0
abbrev r1_6 : Rect S8x224x224 := Rect.unit (s := S8x224x224) ![0, 0, 0] S1x224x224.size inb_S8x224x224_S1x224x224_0_0_0
abbrev r1_7 : Rect S8x224x224 := Rect.unit (s := S8x224x224) ![1, 0, 0] S1x224x224.size inb_S8x224x224_S1x224x224_1_0_0
abbrev r1_8 : Rect S8x224x224 := Rect.unit (s := S8x224x224) ![2, 0, 0] S1x224x224.size inb_S8x224x224_S1x224x224_2_0_0
abbrev r1_9 : Rect S8x224x224 := Rect.unit (s := S8x224x224) ![3, 0, 0] S1x224x224.size inb_S8x224x224_S1x224x224_3_0_0
abbrev r1_10 : Rect S8x224x224 := Rect.unit (s := S8x224x224) ![4, 0, 0] S1x224x224.size inb_S8x224x224_S1x224x224_4_0_0
abbrev r1_11 : Rect S8x224x224 := Rect.unit (s := S8x224x224) ![5, 0, 0] S1x224x224.size inb_S8x224x224_S1x224x224_5_0_0
abbrev r1_12 : Rect S8x224x224 := Rect.unit (s := S8x224x224) ![6, 0, 0] S1x224x224.size inb_S8x224x224_S1x224x224_6_0_0
abbrev r1_13 : Rect S8x224x224 := Rect.unit (s := S8x224x224) ![7, 0, 0] S1x224x224.size inb_S8x224x224_S1x224x224_7_0_0

/-! ## What the body leaves in each output window's buffer -/

/-! ### Values of the body -/

/-- The column index of a row of squared distances. -/
abbrev kcols : IVec S8x16384 32 := iota .tc S8x16384 32 [1] iota_S8x16384_d1_w32

/-- Squared distances of the best patches. -/
def w39 (x0 : Vec F S6272x384 .bf16) (x1 : Vec F S16384x384 .bf16) (x2 : Vec F S8x784 .f32) (x4 : Vec F S1x16384 .f32) : FVec F S8x16384 .f32 :=
  k1_pay7 (View.ld x2 r1_0) (View.ld x0 r1_1) (View.ld x1 r1_2) (View.ld x4 r1_3)

/-- Their row minima, spread over the row. -/
def w42 (x0 : Vec F S6272x384 .bf16) (x1 : Vec F S16384x384 .bf16) (x2 : Vec F S8x784 .f32) (x4 : Vec F S1x16384 .f32) : FVec F S8x16384 .f32 :=
  k1_pay8 (View.ld x2 r1_0) (View.ld x0 r1_1) (View.ld x1 r1_2) (View.ld x4 r1_3)

/-- The memory bank. -/
def w14 (x0 : Vec F S6272x384 .bf16) (x1 : Vec F S16384x384 .bf16) (x2 : Vec F S8x784 .f32) (x4 : Vec F S1x16384 .f32) : FVec F S16384x384 .bf16 :=
  k1_pay5 (View.ld x1 r1_2)

/-- The bank norms. -/
def w27 (x0 : Vec F S6272x384 .bf16) (x1 : Vec F S16384x384 .bf16) (x2 : Vec F S8x784 .f32) (x4 : Vec F S1x16384 .f32) : FVec F S1x16384 .f32 :=
  k1_pay6 (View.ld x4 r1_3)

/-- The patch scores. -/
def w3 (x0 : Vec F S6272x384 .bf16) (x1 : Vec F S16384x384 .bf16) (x2 : Vec F S8x784 .f32) (x4 : Vec F S1x16384 .f32) : FVec F S8x1 .f32 :=
  k1_pay4 (View.ld x2 r1_0)

/-- Distances of the best patches. -/
def w70 (x0 : Vec F S6272x384 .bf16) (x1 : Vec F S16384x384 .bf16) (x2 : Vec F S8x784 .f32) (x4 : Vec F S1x16384 .f32) : FVec F S8x16384 .f32 :=
  k1_pay10 (w39 x0 x1 x2 x4)

/-- Round 1: the selected distance. -/
def w84 (x0 : Vec F S6272x384 .bf16) (x1 : Vec F S16384x384 .bf16) (x2 : Vec F S8x784 .f32) (x4 : Vec F S1x16384 .f32) : FVec F S8x1 .f32 :=
  k1_pay12 (w14 x0 x1 x2 x4) (w27 x0 x1 x2 x4) kcols (w39 x0 x1 x2 x4) (w42 x0 x1 x2 x4)

/-- Round 2: the running distances, or the marks. -/
def w86 (x0 : Vec F S6272x384 .bf16) (x1 : Vec F S16384x384 .bf16) (x2 : Vec F S8x784 .f32) (x4 : Vec F S1x16384 .f32) : FVec F S8x16384 .f32 :=
  k1_pay13 (w14 x0 x1 x2 x4) (w27 x0 x1 x2 x4) kcols (w39 x0 x1 x2 x4) (w42 x0 x1 x2 x4)

/-- Round 2. -/
def w87 (x0 : Vec F S6272x384 .bf16) (x1 : Vec F S16384x384 .bf16) (x2 : Vec F S8x784 .f32) (x4 : Vec F S1x16384 .f32) : FVec F S8 .f32 :=
  k1_pay14 (w14 x0 x1 x2 x4) (w27 x0 x1 x2 x4) kcols (w39 x0 x1 x2 x4) (w42 x0 x1 x2 x4)

/-- Round 2: the selected distance. -/
def w100 (x0 : Vec F S6272x384 .bf16) (x1 : Vec F S16384x384 .bf16) (x2 : Vec F S8x784 .f32) (x4 : Vec F S1x16384 .f32) : FVec F S8x1 .f32 :=
  k1_pay16 kcols (w70 x0 x1 x2 x4) (w86 x0 x1 x2 x4) (w87 x0 x1 x2 x4)

/-- Round 3: the selected distance. -/
def w116 (x0 : Vec F S6272x384 .bf16) (x1 : Vec F S16384x384 .bf16) (x2 : Vec F S8x784 .f32) (x4 : Vec F S1x16384 .f32) : FVec F S8x1 .f32 :=
  k1_pay19 kcols (w70 x0 x1 x2 x4) (w86 x0 x1 x2 x4) (w87 x0 x1 x2 x4)

/-- Round 4. -/
def w118 (x0 : Vec F S6272x384 .bf16) (x1 : Vec F S16384x384 .bf16) (x2 : Vec F S8x784 .f32) (x4 : Vec F S1x16384 .f32) : FVec F S8x16384 .f32 :=
  k1_pay20 kcols (w86 x0 x1 x2 x4) (w87 x0 x1 x2 x4)

/-- Round 4. -/
def w128 (x0 : Vec F S6272x384 .bf16) (x1 : Vec F S16384x384 .bf16) (x2 : Vec F S8x784 .f32) (x4 : Vec F S1x16384 .f32) : IVec S8x16384 1 :=
  k1_pay21 kcols (w86 x0 x1 x2 x4) (w87 x0 x1 x2 x4)

/-- Round 4: the selected distance. -/
def w131 (x0 : Vec F S6272x384 .bf16) (x1 : Vec F S16384x384 .bf16) (x2 : Vec F S8x784 .f32) (x4 : Vec F S1x16384 .f32) : FVec F S8 .f32 :=
  k1_pay22 kcols (w70 x0 x1 x2 x4) (w86 x0 x1 x2 x4) (w87 x0 x1 x2 x4)

/-- Round 4: the selected distance. -/
def w132 (x0 : Vec F S6272x384 .bf16) (x1 : Vec F S16384x384 .bf16) (x2 : Vec F S8x784 .f32) (x4 : Vec F S1x16384 .f32) : FVec F S8x1 .f32 :=
  k1_pay23 (w131 x0 x1 x2 x4)

/-- Round 5: the selected distance. -/
def w148 (x0 : Vec F S6272x384 .bf16) (x1 : Vec F S16384x384 .bf16) (x2 : Vec F S8x784 .f32) (x4 : Vec F S1x16384 .f32) : FVec F S8x1 .f32 :=
  k1_pay26 kcols (w70 x0 x1 x2 x4) (w118 x0 x1 x2 x4) (w128 x0 x1 x2 x4)

/-- Round 6: the selected distance. -/
def w164 (x0 : Vec F S6272x384 .bf16) (x1 : Vec F S16384x384 .bf16) (x2 : Vec F S8x784 .f32) (x4 : Vec F S1x16384 .f32) : FVec F S8x1 .f32 :=
  k1_pay29 kcols (w70 x0 x1 x2 x4) (w118 x0 x1 x2 x4) (w128 x0 x1 x2 x4)

/-- Round 7. -/
def w166 (x0 : Vec F S6272x384 .bf16) (x1 : Vec F S16384x384 .bf16) (x2 : Vec F S8x784 .f32) (x4 : Vec F S1x16384 .f32) : FVec F S8x16384 .f32 :=
  k1_pay30 kcols (w118 x0 x1 x2 x4) (w128 x0 x1 x2 x4)

/-- Round 7. -/
def w175 (x0 : Vec F S6272x384 .bf16) (x1 : Vec F S16384x384 .bf16) (x2 : Vec F S8x784 .f32) (x4 : Vec F S1x16384 .f32) : IVec S8x16384 32 :=
  k1_pay31 kcols (w118 x0 x1 x2 x4) (w128 x0 x1 x2 x4)

/-- Round 7: the selected distance. -/
def w180 (x0 : Vec F S6272x384 .bf16) (x1 : Vec F S16384x384 .bf16) (x2 : Vec F S8x784 .f32) (x4 : Vec F S1x16384 .f32) : FVec F S8x1 .f32 :=
  k1_pay33 kcols (w70 x0 x1 x2 x4) (w175 x0 x1 x2 x4)

/-- Round 8: the selected distance. -/
def w196 (x0 : Vec F S6272x384 .bf16) (x1 : Vec F S16384x384 .bf16) (x2 : Vec F S8x784 .f32) (x4 : Vec F S1x16384 .f32) : FVec F S8x1 .f32 :=
  k1_pay36 kcols (w70 x0 x1 x2 x4) (w166 x0 x1 x2 x4) (w175 x0 x1 x2 x4)

/-- Round 9: the selected distance. -/
def w212 (x0 : Vec F S6272x384 .bf16) (x1 : Vec F S16384x384 .bf16) (x2 : Vec F S8x784 .f32) (x4 : Vec F S1x16384 .f32) : FVec F S8x1 .f32 :=
  k1_pay37 kcols (w70 x0 x1 x2 x4) (w166 x0 x1 x2 x4) (w175 x0 x1 x2 x4)

/-- The largest of the nine. -/
def w220 (x0 : Vec F S6272x384 .bf16) (x1 : Vec F S16384x384 .bf16) (x2 : Vec F S8x784 .f32) (x4 : Vec F S1x16384 .f32) : FVec F S8x1 .f32 :=
  k1_pay38 kcols (w70 x0 x1 x2 x4) (w84 x0 x1 x2 x4) (w100 x0 x1 x2 x4) (w116 x0 x1 x2 x4) (w132 x0 x1 x2 x4) (w148 x0 x1 x2 x4) (w164 x0 x1 x2 x4) (w166 x0 x1 x2 x4) (w175 x0 x1 x2 x4)

/-- The first exponential. -/
def w221 (x0 : Vec F S6272x384 .bf16) (x1 : Vec F S16384x384 .bf16) (x2 : Vec F S8x784 .f32) (x4 : Vec F S1x16384 .f32) : FVec F S8x1 .f32 :=
  k1_pay39 kcols (w70 x0 x1 x2 x4) (w84 x0 x1 x2 x4) (w100 x0 x1 x2 x4) (w116 x0 x1 x2 x4) (w132 x0 x1 x2 x4) (w148 x0 x1 x2 x4) (w164 x0 x1 x2 x4) (w166 x0 x1 x2 x4) (w175 x0 x1 x2 x4)

/-- The scores the body stores. -/
def wpred (x0 : Vec F S6272x384 .bf16) (x1 : Vec F S16384x384 .bf16) (x2 : Vec F S8x784 .f32) (x4 : Vec F S1x16384 .f32) : FVec F S8x1 .f32 :=
  k1_pay40 (w3 x0 x1 x2 x4) (w100 x0 x1 x2 x4) (w116 x0 x1 x2 x4) (w132 x0 x1 x2 x4) (w148 x0 x1 x2 x4) (w164 x0 x1 x2 x4) (w180 x0 x1 x2 x4) (w196 x0 x1 x2 x4) (w212 x0 x1 x2 x4) (w220 x0 x1 x2 x4) (w221 x0 x1 x2 x4)

/-- Window 6's staging buffer after the body, from the input windows' blocks. -/
def out1_6 (x0 : Vec F S6272x384 .bf16) (x1 : Vec F S16384x384 .bf16) (x2 : Vec F S8x784 .f32) (x3 : Vec F S224x28 .f32) (x4 : Vec F S1x16384 .f32) (x5 : Vec F S224x28 .f32) : Vec F S8x1 .f32 :=
  View.canon [⟨r1_4, wpred x0 x1 x2 x4⟩]

/-- Its stores tile the buffer (checked by evaluation), so they cover it. -/
theorem cover1_6 (p0 : Vec F S8x1 .f32) (y : S8x1.Idx) :
    ∃ pc ∈ ([⟨r1_4, p0⟩] : List (View.Piece (Elt F) S8x1 .f32)), y ∈ pc.1.set :=
  View.cover_of_tiled [⟨r1_4, p0⟩] S8x1.size (by rfl) y

/-- Window 7's staging buffer after the body, from the input windows' blocks: its 8 stores, last first. -/
def out1_7 (x0 : Vec F S6272x384 .bf16) (x1 : Vec F S16384x384 .bf16) (x2 : Vec F S8x784 .f32) (x3 : Vec F S224x28 .f32) (x4 : Vec F S1x16384 .f32) (x5 : Vec F S224x28 .f32) : Vec F S8x224x224 .f32 :=
  View.canon [⟨r1_13, k1_pay2 (View.ld x5 r1_5) (k1_pay41 (View.ld x3 r1_5))⟩,
    ⟨r1_12, k1_pay1 (k1_pay49 (View.ld x5 r1_5) (k1_pay41 (View.ld x3 r1_5)))⟩,
    ⟨r1_11, k1_pay48 (View.ld x5 r1_5) (k1_pay41 (View.ld x3 r1_5))⟩,
    ⟨r1_10, k1_pay47 (View.ld x5 r1_5) (k1_pay41 (View.ld x3 r1_5))⟩,
    ⟨r1_9, k1_pay46 (View.ld x5 r1_5) (k1_pay41 (View.ld x3 r1_5))⟩,
    ⟨r1_8, k1_pay45 (View.ld x5 r1_5) (k1_pay41 (View.ld x3 r1_5))⟩,
    ⟨r1_7, k1_pay44 (k1_pay43 (View.ld x5 r1_5) (View.ld x3 r1_5))⟩,
    ⟨r1_6, k1_pay42 (View.ld x5 r1_5) (View.ld x3 r1_5)⟩]

/-- Its stores tile the buffer (checked by evaluation), so they cover it. -/
theorem cover1_7 (p0 : Vec F S1x224x224 .f32) (p1 : Vec F S1x224x224 .f32) (p2 : Vec F S1x224x224 .f32) (p3 : Vec F S1x224x224 .f32) (p4 : Vec F S1x224x224 .f32) (p5 : Vec F S1x224x224 .f32) (p6 : Vec F S1x224x224 .f32) (p7 : Vec F S1x224x224 .f32) (y : S8x224x224.Idx) :
    ∃ pc ∈ ([⟨r1_13, p0⟩, ⟨r1_12, p1⟩, ⟨r1_11, p2⟩, ⟨r1_10, p3⟩, ⟨r1_9, p4⟩, ⟨r1_8, p5⟩, ⟨r1_7, p6⟩, ⟨r1_6, p7⟩] : List (View.Piece (Elt F) S8x224x224 .f32)), y ∈ pc.1.set :=
  View.cover_of_tiled [⟨r1_13, p0⟩, ⟨r1_12, p1⟩, ⟨r1_11, p2⟩, ⟨r1_10, p3⟩, ⟨r1_9, p4⟩, ⟨r1_8, p5⟩, ⟨r1_7, p6⟩, ⟨r1_6, p7⟩] S1x224x224.size (by rfl) y

/-! ## The body's triple -/

set_option maxHeartbeats 1132950 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel (c : Dev nD) (E : Set ℕ) (arg0 : Memref sig .tc .vmem S6272x384 .bf16) (harg0 : arg0.IsWhole) (arg1 : Memref sig .tc .vmem S16384x384 .bf16) (harg1 : arg1.IsWhole) (arg2 : Memref sig .tc .vmem S8x784 .f32) (harg2 : arg2.IsWhole) (arg3 : Memref sig .tc .vmem S224x28 .f32) (harg3 : arg3.IsWhole) (arg4 : Memref sig .tc .vmem S1x16384 .f32) (harg4 : arg4.IsWhole) (arg5 : Memref sig .tc .vmem S224x28 .f32) (harg5 : arg5.IsWhole) (arg6 : Memref sig .tc .vmem S8x1 .f32) (harg6 : arg6.IsWhole) (arg7 : Memref sig .tc .vmem S8x224x224 .f32) (harg7 : arg7.IsWhole)
    (x0 : Vec F S6272x384 .bf16) (x1 : Vec F S16384x384 .bf16) (x2 : Vec F S8x784 .f32) (x3 : Vec F S224x28 .f32) (x4 : Vec F S1x16384 .f32) (x5 : Vec F S224x28 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out1_6 x0 x1 x2 x3 x4 x5) ∗ owns (c : Thread nD τ) arg7 fullShare (out1_7 x0 x1 x2 x3 x4 x5)) -∗ K ⟨⟩))
      ⊢ wp frame (wpE (defs₀ (F := F)) Variants.none c none) E (cc1__stage2_kernel arg0 harg0 arg1 harg1 arg2 harg2 arg3 harg3 arg4 harg4 arg5 harg5 arg6 harg6 arg7 harg7) K := by
  simp only [cc1__stage2_kernel_eq_skeleton]; unfold cc1__stage2_kernel_skel
  simp only [k1_part1_eq_skeleton, k1_part2_eq_skeleton, k1_part3_eq_skeleton, k1_part4_eq_skeleton, k1_part5_eq_skeleton, k1_part6_eq_skeleton, k1_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover1_6 _)).trans ?_
    rfl
  iexists _; isplitr
  swap; · iexact H7
  ipureintro
  refine (View.read_writes_eq_canon _ _ _ (cover1_7 _ _ _ _ _ _ _ _)).trans ?_
  rfl

/-! ## The pipeline's proof data -/

/-- The proof data of the one pipeline on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat (c : Dev nD) : Dat τ (Elt F) Unit ℕ (UR sig nD τ) ℕ cfg1 c where
  A w := V m c (Pipeline.arrRef spec1 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out1_6 (iblk m c 0 t) (iblk m c 1 t) (iblk m c 2 t) (iblk m c 3 t) (iblk m c 4 t) (iblk m c 5 t)
    | ⟨7, _⟩ => out1_7 (iblk m c 0 t) (iblk m c 1 t) (iblk m c 2 t) (iblk m c 3 t) (iblk m c 4 t) (iblk m c 5 t)
  Φ _ := Pipeline.ΦA spec1 c
  q _ := fullShare
  owed _ := 0

/-- The proof data's arrays are the region-entry contents: the proof data's definition projected (`dsimp`), so that
    `V` — a fold over @main's host prefix, long for some programs — is never unfolded to check it. -/
theorem A_eq (c : Dev nD) (w : Fin cfg1.W) : (dat m c).A w = V m c (Pipeline.arrRef spec1 w) := by
  dsimp only [dat]

/-- What the body leaves, window by window (the proof data's `match` reduced by `dsimp`, never `rfl`: Lib/Pipeline.lean `Dat`). -/
theorem after1_0 (c : Dev nD) (t : Fin cfg1.N) : (dat m c).after 0 t = iblk m c 0 t := by dsimp only [dat]
theorem after1_1 (c : Dev nD) (t : Fin cfg1.N) : (dat m c).after 1 t = iblk m c 1 t := by dsimp only [dat]
theorem after1_2 (c : Dev nD) (t : Fin cfg1.N) : (dat m c).after 2 t = iblk m c 2 t := by dsimp only [dat]
theorem after1_3 (c : Dev nD) (t : Fin cfg1.N) : (dat m c).after 3 t = iblk m c 3 t := by dsimp only [dat]
theorem after1_4 (c : Dev nD) (t : Fin cfg1.N) : (dat m c).after 4 t = iblk m c 4 t := by dsimp only [dat]
theorem after1_5 (c : Dev nD) (t : Fin cfg1.N) : (dat m c).after 5 t = iblk m c 5 t := by dsimp only [dat]
theorem after1_6 (c : Dev nD) (t : Fin cfg1.N) : (dat m c).after 6 t = out1_6 (iblk m c 0 t) (iblk m c 1 t) (iblk m c 2 t) (iblk m c 3 t) (iblk m c 4 t) (iblk m c 5 t) := by dsimp only [dat]
theorem after1_7 (c : Dev nD) (t : Fin cfg1.N) : (dat m c).after 7 t = out1_7 (iblk m c 0 t) (iblk m c 1 t) (iblk m c 2 t) (iblk m c 3 t) (iblk m c 4 t) (iblk m c 5 t) := by dsimp only [dat]

/-- Each input's current staging buffer holds its block at every point, fetched there or not (`beforeK_W_of`). -/
theorem before1_0 (c : Dev nD) (t : Fin cfg1.N) (d) : (dat m c).before 0 t d = iblk m c 0 t :=
  before1_0_of m (dat m c) (A_eq m c 0) (after1_0 m c) t d
theorem before1_1 (c : Dev nD) (t : Fin cfg1.N) (d) : (dat m c).before 1 t d = iblk m c 1 t :=
  before1_1_of m (dat m c) (A_eq m c 1) (after1_1 m c) t d
theorem before1_2 (c : Dev nD) (t : Fin cfg1.N) (d) : (dat m c).before 2 t d = iblk m c 2 t :=
  before1_2_of m (dat m c) (A_eq m c 2) (after1_2 m c) t d
theorem before1_3 (c : Dev nD) (t : Fin cfg1.N) (d) : (dat m c).before 3 t d = iblk m c 3 t :=
  before1_3_of m (dat m c) (A_eq m c 3) (after1_3 m c) t d
theorem before1_4 (c : Dev nD) (t : Fin cfg1.N) (d) : (dat m c).before 4 t d = iblk m c 4 t :=
  before1_4_of m (dat m c) (A_eq m c 4) (after1_4 m c) t d
theorem before1_5 (c : Dev nD) (t : Fin cfg1.N) (d) : (dat m c).before 5 t d = iblk m c 5 t :=
  before1_5_of m (dat m c) (A_eq m c 5) (after1_5 m c) t d

/-! ## The body obligation, at a generic point -/

/-- What the body is called with at point `t` (Lib/Pipeline.lean `BodyObligation`'s precondition, the windows one by one), -/
def bodyPre (c : Dev nD) (t : Fin cfg1.N) : sProp 𝕄 :=
  iprop((dat m c).Φ t.castSucc ∗ (dat m c).owesAt () t.castSucc
    ∗ (∃ d, owns (c : Thread nD τ) (st1_0 t) fullShare ((dat m c).before 0 t d))
    ∗ (∃ d, owns (c : Thread nD τ) (st1_1 t) fullShare ((dat m c).before 1 t d))
    ∗ (∃ d, owns (c : Thread nD τ) (st1_2 t) fullShare ((dat m c).before 2 t d))
    ∗ (∃ d, owns (c : Thread nD τ) (st1_3 t) fullShare ((dat m c).before 3 t d))
    ∗ (∃ d, owns (c : Thread nD τ) (st1_4 t) fullShare ((dat m c).before 4 t d))
    ∗ (∃ d, owns (c : Thread nD τ) (st1_5 t) fullShare ((dat m c).before 5 t d))
    ∗ (∃ d, owns (c : Thread nD τ) (st1_6 t) fullShare ((dat m c).before 6 t d))
    ∗ (∃ d, owns (c : Thread nD τ) (st1_7 t) fullShare ((dat m c).before 7 t d)))

/-- and what it returns. -/
def bodyPost (c : Dev nD) (t : Fin cfg1.N) : sProp 𝕄 :=
  iprop((dat m c).Φ t.succ ∗ (dat m c).owesAt () t.succ
    ∗ owns (c : Thread nD τ) (st1_0 t) fullShare ((dat m c).after 0 t)
    ∗ owns (c : Thread nD τ) (st1_1 t) fullShare ((dat m c).after 1 t)
    ∗ owns (c : Thread nD τ) (st1_2 t) fullShare ((dat m c).after 2 t)
    ∗ owns (c : Thread nD τ) (st1_3 t) fullShare ((dat m c).after 3 t)
    ∗ owns (c : Thread nD τ) (st1_4 t) fullShare ((dat m c).after 4 t)
    ∗ owns (c : Thread nD τ) (st1_5 t) fullShare ((dat m c).after 5 t)
    ∗ owns (c : Thread nD τ) (st1_6 t) fullShare ((dat m c).after 6 t)
    ∗ owns (c : Thread nD τ) (st1_7 t) fullShare ((dat m c).after 7 t))

/-- The body at any point: the inputs' memrefs hold their blocks (`before1_W`), so `sound_kernel` applies; the invariant and
    the core's `owes` pass through unread. -/
theorem sound_body (c : Dev nD) (t : Fin cfg1.N) :
    bodyPre m c t ⊢ wp frame (wpE (defs₀ (F := F)) Variants.none c none) Set.univ (bodyAt1 t) (fun _ => bodyPost m c t) := by
  unfold bodyPre bodyPost bodyAt1
  simp only [before1_0, before1_1, before1_2, before1_3, before1_4, before1_5]
  rw [show (dat m c).Φ t.succ = (dat m c).Φ t.castSucc from rfl,
    show (dat m c).owesAt () t.succ = (dat m c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation (c : Dev nD) : BodyObligation (dat (F := F) m c) (defs₀ (F := F)) Variants.none () Set.univ := fun t => by
  rw [bigSep_W1, bigSep_W1, defs₀_row]
  exact triple_restated (sound_body m c t) rfl .rfl fun _ => .rfl

end Cert.KernelIdeal.Stage2

end
-- ==== Proof.KernelIdeal.Whole.lean ====
/- The whole run: the two pipelines between their host operations, the contents of every buffer at the end, and the frame -/
module

public import proofs.«01_k».proof.Proof.KernelIdeal.Stage1
public import proofs.«01_k».proof.Proof.KernelIdeal.Stage2
public import Idealize.ShloMosaic.Lib.Pipeline.RegionArraysS
public import Idealize.ShloMosaic.Lib.Pipeline.Regions

@[expose] public section

noncomputable section

namespace Cert.KernelIdeal.Whole

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- A core's buffers at launch. -/
def U0 (c : Dev nD) : Valuation τ sig (Elt F) := StableHlo.launchContents m c
/-- After the casts of the arguments. -/
def U1 (c : Dev nD) : Valuation τ sig (Elt F) := StableHlo.after hostOps0 (U0 m c)
/-- After the first pipeline. -/
def U2 (c : Dev nD) : Valuation τ sig (Elt F) := Pipeline.afterRegion (Stage1.dat (U1 m) c) (U1 m c)
/-- After the reshapes of its results. -/
def U3 (c : Dev nD) : Valuation τ sig (Elt F) := StableHlo.after hostOps1 (U2 m c)
/-- After the second pipeline. -/
def U4 (c : Dev nD) : Valuation τ sig (Elt F) := Pipeline.afterRegion (Stage2.dat (U3 m) c) (U3 m c)
/-- At the end. -/
def U5 (c : Dev nD) : Valuation τ sig (Elt F) := StableHlo.after hostOps2 (U4 m c)

/-! ## The items as segments -/

/-- The proof data of the two pipelines, each entered from its own contents. -/
def pdats : (p : Fin 2) → (c : Dev nD) → Dat τ (Elt F) Unit ℕ (UR sig nD τ) ℕ (cfgs p) c
  | ⟨0, _⟩ => fun c => Stage1.dat (U1 m) c
  | ⟨1, _⟩ => fun c => Stage2.dat (U3 m) c

/-- No pipeline has a prefetched table. -/
abbrev adm : (p : Fin 2) → (pcfgs (F := F) p).Adm := fun p => (cfgs p).toPCfg_adm
/-- The one level index, at every semaphore of a TensorCore. -/
def L : GSem nD τ sig → Finset Unit := fun g => if g.1.2 = .tc then {()} else ∅
/-- Every level is zero: no core owes another anything. -/
abbrev lv : GSem nD τ sig → Unit → ℕ := fun _ _ => 0

/-- What rides beside the buffers: the core owing nothing, and the PRNG register. -/
abbrev E (c : Dev nD) : sProp 𝕄 :=
  iprop((∃ W, owes (c : Thread nD τ) (0 : CellTallies nD τ sig Unit) W) ∗ (∃ r, prngReg c r) ∗ emp)

/-- A stretch of host operations over every unscoped buffer. -/
def host (ops : List (HloOp τ sig (Elt F))) (hsub : ops.Forall fun op => op.bufs ⊆ StableHlo.tcRefs τ sig)
    (hfresh : ops.Forall fun op => op.fresh = ∅) (W : Dev nD → Valuation τ sig (Elt F)) :
    HostSeg (Ix := Unit) (Name := ℕ) (U := UR sig nD τ) (Lvl := ℕ) (pcfgs (F := F)) defs₀ Variants.none L lv :=
  HostSeg.ofOps _ _ _ _ _ (Pipeline.ucRefs τ sig) ops
    (fun op h => Pipeline.sub_ucRefs op ((List.forall_iff_forall_mem.mp hsub) op h))
    (fun op h => (List.forall_iff_forall_mem.mp hfresh) op h) W E

theorem fresh0 : (hostOps0 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh2 : (hostOps2 : List (HloOp τ sig (Elt F))).Forall fun op => op.fresh = ∅ := by
  simp only [List.Forall]; repeat' constructor

/-- The staging waits lie at the one level, and no core owes anything. -/
theorem cut (p : Fin 2) : Pipeline.LevelCut (nD := nD) (τ := τ) (pcfgs (F := F)) adm () L lv p (fun _ => 0) (fun _ => 0) where
  hι _ _ _ := by simp [L]
  hιb _ _ _ := le_rfl
  hD _ _ _ h := absurd h (lt_irrefl _)

set_option backward.isDefEq.respectTransparency.types false in
/-- The first pipeline's region. -/
def R0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig)
    (fun c => iprop(∃ r, prngReg c r)) (fun c => iprop(∃ r, prngReg c r)) launch0.toP rfl
    (fun c => (Stage1.body_obligation (U1 m) c).loose) (fun _ _ => rfl) (fun _ => rfl)
    (fun c => (Stage1.dat (U1 m) c).share_full fun _ => rfl)
    (fun c => Stage1.hin (U1 m) c) (fun c => Stage1.hout (U1 m) c)
    (fun _ => 0) (cut 0) (fun _ => iprop(emp)) (U1 m) (fun c w => Stage1.A_eq (U1 m) c w)

set_option backward.isDefEq.respectTransparency.types false in
/-- The second pipeline's region. -/
def R1 : RegionSeg (pcfgs (F := F)) adm (pdats m) () defs₀ Variants.none L lv 1 :=
  RegionSeg.ofHeldIn (pcfgs (F := F)) adm (pdats m) () defs₀ Variants.none L lv 1 (fun _ => 0) (Pipeline.ucRefs τ sig)
    (fun c => iprop(∃ r, prngReg c r)) (fun c => iprop(∃ r, prngReg c r)) launch1.toP rfl
    (fun c => (Stage2.body_obligation (U3 m) c).loose) (fun _ _ => rfl) (fun _ => rfl)
    (fun c => (Stage2.dat (U3 m) c).share_full fun _ => rfl)
    (fun c => .rfl) (fun c => .rfl)
    (fun _ => 0) (cut 1) (fun _ => iprop(emp)) (U3 m) (fun c w => Stage2.A_eq (U3 m) c w)

/-- The program's items. -/
abbrev segs : List (Seg (pcfgs (F := F)) adm (pdats m) () defs₀ Variants.none L lv) :=
  [.host (host hostOps0 hostOps0_sub fresh0 (U0 m)), .region (R0 m), .host (host hostOps1 hostOps1_sub fresh1 (U2 m)),
    .region (R1 m), .host (host hostOps2 hostOps2_sub fresh2 (U4 m))]

theorem no_unscoped : ∀ sm : SemLoc sig, sm.isScoped .tc = true := by decide

theorem arrs0 : Pipeline.arrRefs (τ := τ) (pcfgs (F := F) 0).spec ⊆ Pipeline.ucRefs τ sig :=
  Pipeline.arrRefs_sub_ucRefs _ (by intro w; fin_cases w <;> rfl)
theorem arrs1 : Pipeline.arrRefs (τ := τ) (pcfgs (F := F) 1).spec ⊆ Pipeline.ucRefs τ sig :=
  Pipeline.arrRefs_sub_ucRefs _ (by intro w; fin_cases w <;> rfl)

/-- The unscoped buffers at a valuation, and what rides beside them. -/
abbrev At (W : Dev nD → Valuation τ sig (Elt F)) (c : Dev nD) : sProp 𝕄 :=
  iprop(StableHlo.held (c : Thread nD τ) (Pipeline.ucRefs τ sig) (W c) ∗ E c)

theorem entry0 (c : Dev nD) : At (U1 m) c ⊢ (R0 m).pre c := by
  unfold R0
  exact RegionSeg.ofHeldIn_pre (pcs := pcfgs (F := F)) (a := adm) (pdats := pdats m) (p := 0) (D := fun _ => 0) (L := L) (lv := lv) (ι := ()) (defs₀ := defs₀) (𝒱₀ := Variants.none)
    (X := fun c => iprop(∃ r, prngReg c r)) (Y := fun c => iprop(∃ r, prngReg c r)) (R := fun _ => iprop(emp)) (W := U1 m) arrs0 c
theorem exit0 (c : Dev nD) : (R0 m).post c ⊢ At (U2 m) c := by
  have e : U2 m c = Pipeline.afterRegion (pdats m 0 c) (U1 m c) := rfl
  unfold R0 At; rw [e]; exact RegionSeg.ofHeldIn_post arrs0 c
theorem entry1 (c : Dev nD) : At (U3 m) c ⊢ (R1 m).pre c := by
  unfold R1
  exact RegionSeg.ofHeldIn_pre (pcs := pcfgs (F := F)) (a := adm) (pdats := pdats m) (p := 1) (D := fun _ => 0) (L := L) (lv := lv) (ι := ()) (defs₀ := defs₀) (𝒱₀ := Variants.none)
    (X := fun c => iprop(∃ r, prngReg c r)) (Y := fun c => iprop(∃ r, prngReg c r)) (R := fun _ => iprop(emp)) (W := U3 m) arrs1 c
theorem exit1 (c : Dev nD) : (R1 m).post c ⊢ At (U4 m) c := by
  have e : U4 m c = Pipeline.afterRegion (pdats m 1 c) (U3 m c) := rfl
  unfold R1 At; rw [e]; exact RegionSeg.ofHeldIn_post arrs1 c
theorem last (c : Dev nD) : At (U5 m) c ⊢ iprop(StableHlo.held (c : Thread nD τ) (Pipeline.ucRefs τ sig) (U5 m c)
    ∗ ∃ W, owes (c : Thread nD τ) (0 : CellTallies nD τ sig Unit) W) :=
  sep_mono .rfl (by iintro ⟨HO, -, -⟩; iexact HO)

set_option backward.isDefEq.respectTransparency.types false in
/-- Every weakly fair execution terminates with every unscoped buffer of every core at `U5` and every semaphore counter at zero. -/
theorem run : θ_run defs (onTc (τ := τ) (main (F := F))) ⟨m, fun _ => 0, ρ⟩ (fun r =>
      (∀ (c : Dev nD), ∀ b ∈ Pipeline.ucRefs τ sig, r.2.mem (c, b) = U5 m c b) ∧ r.2.sem = fun _ => 0) := by
  refine Pipeline.θ_run_regions_kit_dev_sems (pcfgs (F := F)) adm (pdats m) () cellOf_inj emb₁ defs₀ Variants.none L lv m ρ main
    (fun _ => segs m)
    (fun c Q => by
      rewrite [main_chain c, Seg.run_eq_chain,
        show (segs m).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide)
    (O₀ := 0) (fun g h => by simp [L, h]) (G := fun _ => iprop(emp))
    (u₀ := initOf (Pipeline.cells cfgs cellOf_inj) (Pipeline.launchToks cfgs cellOf_inj))
    (by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ E c))
    (Tₙ := fun c => StableHlo.held (c : Thread nD τ) (Pipeline.ucRefs τ sig) (U5 m c))
    (hch := fun c => ⟨.rfl, entry0 m c, exit0 m c, entry1 m c, exit1 m c, last m c⟩)
    (hinit := by
      refine Pipeline.initEach L lv fun c => ?_
      rw [show unscopedBufs c (fun b => m ((c.tc : Thread nD τ).loc b)) = StableHlo.held (c.tc : Thread nD τ) (Pipeline.ucRefs τ sig) (U0 m c)
          from Pipeline.unscopedBufs_held (Ix := Unit) (Name := ℕ) (U := UR sig nD τ) (Lvl := ℕ) c (U0 m c)]
      iintro ⟨⟨Hh, -, HO, -, Hp, -⟩, -⟩
      imodintro
      isplitl [Hh]; · iexact Hh
      isplitl [HO]; · iexists _; iexact HO
      isplitl [Hp]; · iexists _; iexact Hp
      iempintro)
    (QY := fun c s => ∀ b ∈ Pipeline.ucRefs τ sig, s.mem ((c.tc : Thread nD τ).1, b) = U5 m c b)
    (hfin := fun c s' => by
      unfold StableHlo.held
      iintro ⟨Hh, HSI⟩
      ihave Hr := (pointsTo_read_all (Pipeline.ucRefs τ sig) (fun b => ((c.tc : Thread nD τ).1, b)) (U5 m c) s') $$ [Hh HSI]
      · isplitl [Hh] <;> iassumption
      imodintro; iexact Hr)
    (hQ := fun _ h hz => ⟨h, funext fun g => hz g (.inr (no_unscoped g.2))⟩)

/-! ## The arguments are as launched -/

/-- What no item writes ends as launched. -/
theorem keeps (c : Dev nD) (r : Ref sig .tc)
    (h : r ∉ [main_v0, main_v1, main_v2_0, main_v2_1, main_v3, main_v4, main_v5, main_v6, main_v7, main_v8_0, main_v8_1, main_v9, main_v10]) :
    U5 m c (Proc.devRef .tc r) = m ((c : Thread nD τ).loc r) := by
  simp only [List.mem_cons, List.not_mem_nil, or_false, not_or] at h
  obtain ⟨h0, h1, h20, h21, h3, h4, h5, h6, h7, h80, h81, h9, h10⟩ := h
  have e5 : U5 m c (Proc.devRef .tc r) = U4 m c (Proc.devRef .tc r) :=
    StableHlo.after_of_writes_sub (W := [main_v9, main_v10]) hostOps2 _ (StableHlo.forall_writes_sub_of_map rfl) (by simp [h9, h10])
  have e4 : U4 m c (Proc.devRef .tc r) = U3 m c (Proc.devRef .tc r) :=
    Pipeline.afterRegion_keeps _ _ launch1.win.arr_inj (Stage2.A_eq (U3 m) c) r (by
      intro w; fin_cases w <;> intro e <;> first | rfl | exact absurd e.symm (by assumption))
  have e3 : U3 m c (Proc.devRef .tc r) = U2 m c (Proc.devRef .tc r) :=
    StableHlo.after_of_writes_sub (W := [main_v3, main_v4, main_v5, main_v6, main_v7]) hostOps1 _ (StableHlo.forall_writes_sub_of_map rfl) (by simp [h3, h4, h5, h6, h7])
  have e2 : U2 m c (Proc.devRef .tc r) = U1 m c (Proc.devRef .tc r) :=
    Pipeline.afterRegion_keeps _ _ launch0.win.arr_inj (Stage1.A_eq (U1 m) c) r (by
      intro w; fin_cases w <;> intro e <;> first | rfl | exact absurd e.symm (by assumption))
  have e1 : U1 m c (Proc.devRef .tc r) = U0 m c (Proc.devRef .tc r) :=
    StableHlo.after_of_writes_sub (W := [main_v0, main_v1]) hostOps0 _ (StableHlo.forall_writes_sub_of_map rfl) (by simp [h0, h1])
  exact e5.trans (e4.trans (e3.trans (e2.trans (e1.trans rfl))))

/-- An unscoped reference's buffer at the end. -/
theorem run_at : θ_run defs (onTc (τ := τ) (main (F := F))) ⟨m, fun _ => 0, ρ⟩ (fun r =>
      (∀ (c : Dev nD) (b : Ref sig .tc), b.isScoped = false → r.2.mem ((c.tc : Thread nD τ).loc b) = U5 m c (Proc.devRef .tc b))
      ∧ r.2.sem = fun _ => 0) :=
  (θ_run defs _ _).mono (fun r h => ⟨fun c b hb => h.1 c _ (Pipeline.devRef_mem_ucRefs hb), h.2⟩) (run m ρ)

/-- The frame: the arguments end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(h.1 c main_arg0 rfl).trans (keeps m c _ (by decide)), (h.1 c main_arg1 rfl).trans (keeps m c _ (by decide)),
      (h.1 c main_arg2 rfl).trans (keeps m c _ (by decide)), (h.1 c main_arg3 rfl).trans (keeps m c _ (by decide))⟩, h.2⟩) (run_at m ρ)

end Cert.KernelIdeal.Whole

end
-- ==== Proof.Frames.lean ====
/- The frames: each program runs, leaves its arguments as launched, and every counter ends at zero. -/
module

public import proofs.«01_k».proof.Defs
public import proofs.«01_k».proof.Proof.Kernel.Whole
public import proofs.«01_k».proof.Proof.KernelIdeal.Whole
public import proofs.«01_k».proof.Proof.Gen.ReferenceIdeal.Run

@[expose] public section

noncomputable section

namespace Cert.Proof

open Idealize.ShloMosaic Idealize.SL.Sem

theorem frame_kernel : Cert.quiescent_Kernel (hKernel := Cert.Kernel.Gen.facts) :=
  fun m ρ _ => Cert.Kernel.Whole.frame m ρ

theorem frame_ideal : Cert.quiescent_KernelIdeal (hKernelIdeal := Cert.KernelIdeal.Gen.facts) :=
  fun m ρ _ => Cert.KernelIdeal.Whole.frame m ρ

/-- The reference declares no semaphore; its run leaves the arguments. -/
theorem frame_reference : Cert.quiescent_ReferenceIdeal (hReferenceIdeal := Cert.ReferenceIdeal.Gen.facts) :=
  fun m ρ _ => (θ_run (Cert.ReferenceIdeal.defs (F := Ideal)) _ _).mono
    (fun r h => ⟨fun c => (h c).2.2, Idealize.ShloMosaic.sem_eq_zero_of_no_sems (by decide) r.2⟩)
    (Cert.ReferenceIdeal.Value.run m ρ)

end Cert.Proof

end
-- ==== Proof.Math.Pick.lean ====
/- The first least entry of a finite family, the repeated selection of the least entries, and that a stable sort lists
   exactly those. -/
module

public import Idealize.ShloMosaic.Lib.SortFacts
public import Mathlib.Data.EReal.Basic
public import Mathlib.Data.Finset.Max

@[expose] public section

noncomputable section

namespace Cert.Math

open Idealize.ShloMosaic

variable {n : ℕ}

/-- `k` is the first index at which `f` is least. -/
def First (f : Fin n → EReal) (k : Fin n) : Prop := (∀ j, f k ≤ f j) ∧ ∀ j, j < k → f k < f j

theorem First.unique {f : Fin n → EReal} {k l : Fin n} (hk : First f k) (hl : First f l) : k = l := by
  rcases lt_trichotomy k l with h | h | h
  · exact absurd (hl.2 k h) (not_lt.mpr (hk.1 l))
  · exact h
  · exact absurd (hk.2 l h) (not_lt.mpr (hl.1 k))

theorem exists_first [NeZero n] (f : Fin n → EReal) : ∃ k, First f k := by
  classical
  obtain ⟨m, -, hm⟩ := Finset.exists_min_image Finset.univ f ⟨⟨0, Nat.pos_of_ne_zero (NeZero.ne n)⟩, Finset.mem_univ _⟩
  replace hm : ∀ j, f m ≤ f j := fun j => hm j (Finset.mem_univ j)
  let s : Finset (Fin n) := Finset.univ.filter fun k => f k = f m
  have hs : s.Nonempty := ⟨m, by simp [s]⟩
  refine ⟨s.min' hs, ?_⟩
  have hmem : f (s.min' hs) = f m := by
    have := s.min'_mem hs
    simpa [s] using this
  refine ⟨fun j => hmem ▸ hm j, fun j hj => ?_⟩
  rw [hmem]
  refine lt_of_le_of_ne (hm j) fun e => ?_
  exact absurd (s.min'_le j (by simp [s, e])) (not_le.mpr hj)

/-- The first index at which `f` is least. -/
def amin [NeZero n] (f : Fin n → EReal) : Fin n := (exists_first f).choose

theorem amin_first [NeZero n] (f : Fin n → EReal) : First f (amin f) := (exists_first f).choose_spec

theorem First.eq_amin [NeZero n] {f : Fin n → EReal} {k : Fin n} (h : First f k) : k = amin f := h.unique (amin_first f)

theorem amin_le [NeZero n] (f : Fin n → EReal) (j : Fin n) : f (amin f) ≤ f j := (amin_first f).1 j

/-- The family after `j` rounds, each of which raises the first least entry to `⊤`. -/
def cur [NeZero n] (f : Fin n → EReal) : ℕ → Fin n → EReal
  | 0 => f
  | j + 1 => Function.update (cur f j) (amin (cur f j)) ⊤

/-- The index taken in round `j`. -/
def pick [NeZero n] (f : Fin n → EReal) (j : ℕ) : Fin n := amin (cur f j)

theorem pick_zero [NeZero n] (f : Fin n → EReal) : pick f 0 = amin f := rfl

/-- `a` comes before `b`: smaller, or equal and at the lower index. -/
def Lex (f : Fin n → EReal) (a b : Fin n) : Prop := f a < f b ∨ (f a = f b ∧ a < b)

theorem pairwise_insert (f : Fin n → EReal) (R : Fin n → Fin n → Bool) (hR : ∀ a b, R a b = true ↔ f a < f b) (a : Fin n)
    (l : List (Fin n)) (ha : ∀ b ∈ l, a < b) (hl : l.Pairwise (Lex f)) : (insertBefore R a l).Pairwise (Lex f) := by
  induction l with
  | nil => exact List.pairwise_singleton _ _
  | cons b l ih =>
    rw [List.pairwise_cons] at hl
    unfold insertBefore
    split
    · rename_i h
      have hba := (hR b a).mp h
      refine List.pairwise_cons.mpr ⟨fun c hc => ?_, ih (fun c hc => ha c (List.mem_cons_of_mem _ hc)) hl.2⟩
      rcases List.mem_cons.mp ((perm_insertBefore R a l).mem_iff.mp hc) with rfl | hc'
      · exact Or.inl hba
      · exact hl.1 c hc'
    · rename_i h
      have hba : f a ≤ f b := not_lt.mp fun e => h ((hR b a).mpr e)
      have key : ∀ c, f b ≤ f c → a < c → Lex f a c := fun c hc hac => by
        rcases lt_or_eq_of_le (hba.trans hc) with e | e
        · exact Or.inl e
        · exact Or.inr ⟨e, hac⟩
      refine List.pairwise_cons.mpr ⟨fun c hc => ?_, List.pairwise_cons.mpr hl⟩
      rcases List.mem_cons.mp hc with rfl | hc'
      · exact key _ le_rfl (ha _ (by simp))
      · refine key c ?_ (ha c (List.mem_cons_of_mem _ hc'))
        rcases hl.1 c hc' with e | e
        · exact e.le
        · exact e.1.le

theorem pairwise_sort (f : Fin n → EReal) (R : Fin n → Fin n → Bool) (hR : ∀ a b, R a b = true ↔ f a < f b)
    (l : List (Fin n)) (hl : l.Pairwise (· < ·)) : (stableSort R l).Pairwise (Lex f) := by
  induction l with
  | nil => exact List.Pairwise.nil
  | cons a l ih =>
    rw [List.pairwise_cons] at hl
    unfold stableSort
    exact pairwise_insert f R hR a _ (fun b hb => hl.1 b ((perm_stableSort R l).mem_iff.mp hb)) (ih hl.2)

/-- The stable sort's positions increase strictly in (value, index). -/
theorem sortedFrom_lex (f : Fin n → EReal) (R : Fin n → Fin n → Bool) (hR : ∀ a b, R a b = true ↔ f a < f b) {i j : Fin n}
    (hij : i < j) : Lex f (sortedFrom R i) (sortedFrom R j) := by
  have hp := List.pairwise_iff_get.mp (pairwise_sort f R hR (List.finRange n) (List.pairwise_lt_finRange n))
  exact hp _ _ (show i.val < j.val from hij)

/-- The stable sort of a family below `⊤` lists the indices of the successive rounds. -/
theorem sortedFrom_eq_pick [NeZero n] (f : Fin n → EReal) (hf : ∀ k, f k < ⊤) (R : Fin n → Fin n → Bool)
    (hR : ∀ a b, R a b = true ↔ f a < f b) (j : Fin n) : sortedFrom R j = pick f j.val := by
  have main : ∀ j : ℕ, (hj : j ≤ n) → (∀ k : Fin n, cur f j k = ⊤ ∧ (∃ i : Fin n, i.val < j ∧ sortedFrom R i = k)
      ∨ cur f j k = f k ∧ ∃ i : Fin n, j ≤ i.val ∧ sortedFrom R i = k) := by
    intro j
    induction j with
    | zero =>
      intro _ k
      obtain ⟨i, hi⟩ := sortedFrom_surjective R k
      exact Or.inr ⟨rfl, i, Nat.zero_le _, hi⟩
    | succ j ih =>
      intro hj k
      have ih := ih (by omega)
      have hF : First (cur f j) (sortedFrom R ⟨j, hj⟩) := by
        have hval : cur f j (sortedFrom R ⟨j, hj⟩) = f (sortedFrom R ⟨j, hj⟩) := by
          rcases ih (sortedFrom R ⟨j, hj⟩) with ⟨_, i, hi, e⟩ | ⟨e, _⟩
          · have := congrArg Fin.val (sortedFrom_injective R e)
            simp only at this; omega
          · exact e
        have hle : ∀ k, (cur f j k = ⊤ ∨ k = sortedFrom R ⟨j, hj⟩) ∨ (cur f j k = f k ∧ Lex f (sortedFrom R ⟨j, hj⟩) k) := by
          intro k
          rcases ih k with ⟨e, _⟩ | ⟨e, i, hi, rfl⟩
          · exact Or.inl (Or.inl e)
          · rcases eq_or_lt_of_le hi with h | h
            · have : i = ⟨j, hj⟩ := Fin.ext h.symm
              exact Or.inl (Or.inr (by rw [this]))
            · exact Or.inr ⟨e, sortedFrom_lex f R hR (show (⟨j, hj⟩ : Fin n) < i from h)⟩
        refine ⟨fun k => ?_, fun k hk => ?_⟩
        · rcases hle k with (e | e) | ⟨e, h | h⟩
          · rw [e]; exact le_top
          · rw [e]
          · rw [hval, e]; exact h.le
          · rw [hval, e]; exact h.1.le
        · rcases hle k with (e | e) | ⟨e, h | h⟩
          · rw [e, hval]; exact hf _
          · exact absurd hk (by rw [e]; exact lt_irrefl _)
          · rw [hval, e]; exact h
          · exact absurd hk (not_lt.mpr h.2.le)
      have hpick : amin (cur f j) = sortedFrom R ⟨j, hj⟩ := hF.eq_amin.symm
      by_cases hk : k = sortedFrom R ⟨j, hj⟩
      · exact Or.inl ⟨by simp [cur, hpick, hk], ⟨j, hj⟩, by simp, hk.symm⟩
      · have hc : cur f (j + 1) k = cur f j k := by simp only [cur, hpick, Function.update_of_ne hk]
        rcases ih k with ⟨e, i, hi, h⟩ | ⟨e, i, hi, h⟩
        · exact Or.inl ⟨hc.trans e, i, by omega, h⟩
        · refine Or.inr ⟨hc.trans e, i, ?_, h⟩
          rcases eq_or_lt_of_le hi with hh | hh
          · exact absurd (show k = sortedFrom R ⟨j, hj⟩ from by rw [← h]; exact congrArg _ (Fin.ext hh.symm)) hk
          · omega
  -- read off at round `j`
  refine First.eq_amin ?_
  have ih := main j.val j.isLt.le
  have hval : cur f j.val (sortedFrom R j) = f (sortedFrom R j) := by
    rcases ih (sortedFrom R j) with ⟨_, i, hi, e⟩ | ⟨e, _⟩
    · have := congrArg Fin.val (sortedFrom_injective R e)
      omega
    · exact e
  have hle : ∀ k, (cur f j.val k = ⊤ ∨ k = sortedFrom R j) ∨ (cur f j.val k = f k ∧ Lex f (sortedFrom R j) k) := by
    intro k
    rcases ih k with ⟨e, _⟩ | ⟨e, i, hi, rfl⟩
    · exact Or.inl (Or.inl e)
    · rcases eq_or_lt_of_le hi with h | h
      · have : i = j := Fin.ext h.symm
        exact Or.inl (Or.inr (by rw [this]))
      · exact Or.inr ⟨e, sortedFrom_lex f R hR (show j < i from h)⟩
  refine ⟨fun k => ?_, fun k hk => ?_⟩
  · rcases hle k with (e | e) | ⟨e, h | h⟩
    · rw [e]; exact le_top
    · rw [e]
    · rw [hval, e]; exact h.le
    · rw [hval, e]; exact h.1.le
  · rcases hle k with (e | e) | ⟨e, h | h⟩
    · rw [e, hval]; exact hf _
    · exact absurd hk (by rw [e]; exact lt_irrefl _)
    · rw [hval, e]; exact h
    · exact absurd hk (not_lt.mpr h.2.le)

end Cert.Math

end
-- ==== Proof.Math.Dist.lean ====
/- Minima of families of extended reals, and the distance between two points of real coordinates -/
module

public import proofs.«01_k».proof.Proof.Math.Pick
public import Idealize.ShloMosaic.PureOps.Ideal
public import Idealize.ShloMosaic.PureOps.Reduce
public import Idealize.ShloMosaic.Lib.Pointwise

@[expose] public section

noncomputable section

namespace Cert.Math

open Idealize.ShloMosaic

variable {n : ℕ}

/-- The minimum of a family, taken from `⊤`, is its value at the first least index. -/
theorem fold_min [NeZero n] (f : Fin n → EReal) : Finset.univ.fold min ⊤ f = f (amin f) := by
  apply le_antisymm
  · have := (Finset.le_fold_min (s := Finset.univ) (f := f) (b := ⊤) (Finset.univ.fold min ⊤ f)).mp le_rfl
    exact this.2 _ (Finset.mem_univ _)
  · exact (Finset.le_fold_min _).mpr ⟨le_top, fun j _ => amin_le f j⟩

/-- The maximum of a family, taken from `⊥`, is its value at the first index where the negated family is least. -/
theorem fold_max [NeZero n] (f : Fin n → EReal) : Finset.univ.fold max ⊥ f = f (amin fun k => -f k) := by
  apply le_antisymm
  · refine (Finset.fold_max_le _).mpr ⟨bot_le, fun j _ => ?_⟩
    have := amin_le (fun k => -f k) j
    exact EReal.neg_le_neg_iff.mp this
  · have := (Finset.fold_max_le (s := Finset.univ) (f := f) (b := ⊥) (Finset.univ.fold max ⊥ f)).mp le_rfl
    exact this.2 _ (Finset.mem_univ _)

/-- The first least index depends only on the order of the values. -/
theorem amin_congr [NeZero n] {f g : Fin n → EReal} (h : ∀ j k, f j ≤ f k ↔ g j ≤ g k) : amin f = amin g := by
  have hf := amin_first f
  refine First.eq_amin ⟨fun j => (h _ _).mp (hf.1 j), fun j hj => ?_⟩
  exact not_le.mp fun hc => not_le.mpr (hf.2 j hj) ((h _ _).mpr hc)

/-- The entries equal to the minimum: the first of them is the first least index. -/
theorem amin_eq [NeZero n] (f : Fin n → EReal) (j : Fin n) (h : f j = f (amin f)) : amin f ≤ j := by
  by_contra hc
  exact absurd ((amin_first f).2 j (not_le.mp hc)) (by rw [h]; exact lt_irrefl _)

/-- The least index at which a family takes its minimum, found by a running minimum of words. -/
theorem fold_minsi [NeZero n] (f : Fin n → EReal) (hn : n < 2 ^ 30) (v : Fin n → BitVec 32)
    (hv : ∀ k, v k = if f k = f (amin f) then BitVec.ofNat 32 k.val else BitVec.ofNat 32 n) :
    Finset.univ.fold IntOp.minsi 2147483647#32 v = BitVec.ofNat 32 (amin f).val := by
  have hm : ∀ x y : BitVec 32, min x.toInt y.toInt = (IntOp.minsi x y).toInt := by
    intro x y
    unfold IntOp.minsi
    by_cases h : x.slt y
    · rw [if_pos h]
      exact min_eq_left (le_of_lt (by simpa [BitVec.slt] using h))
    · rw [if_neg h]
      exact min_eq_right (by simpa [BitVec.slt] using h)
  have hi : ∀ k : ℕ, k ≤ n → (BitVec.ofNat 32 k).toInt = k := by
    intro k hk
    have h1 : (BitVec.ofNat 32 k).toNat = k := by
      rw [BitVec.toNat_ofNat, Nat.mod_eq_of_lt (by omega)]
    rw [BitVec.toInt_eq_toNat_of_lt (by rw [h1]; omega), h1]
  have hf := Finset.fold_hom (op := IntOp.minsi) (op' := (min : Int → Int → Int)) (s := Finset.univ) (b := 2147483647#32) (f := v)
    (m := BitVec.toInt) fun x y => (hm x y).symm
  apply BitVec.eq_of_toInt_eq
  rw [← hf, hi _ (le_of_lt (amin f).isLt)]
  have h0 : (2147483647#32 : BitVec 32).toInt = 2147483647 := by decide
  have hk := (amin f).isLt
  apply le_antisymm
  · have := ((Finset.le_fold_min (s := Finset.univ) (f := fun x => (v x).toInt) (b := (2147483647#32 : BitVec 32).toInt) _).mp le_rfl).2
      (amin f) (Finset.mem_univ _)
    refine this.trans ?_
    rw [hv, if_pos rfl, hi _ (le_of_lt hk)]
  · refine (Finset.le_fold_min _).mpr ⟨by rw [h0]; omega, fun j _ => ?_⟩
    rw [hv]
    split
    · rename_i h
      have : (amin f).val ≤ j.val := amin_eq f j h
      rw [hi _ (le_of_lt j.isLt)]
      omega
    · rw [hi _ le_rfl]
      omega

/-! ### Distances -/

variable {D : ℕ}

/-- A sum of real terms, as an extended real. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The squared distance of two points. -/
def sq (p q : Fin D → ℝ) : ℝ := ∑ d, (p d - q d) ^ 2

/-- The distance of two points. -/
def dst (p q : Fin D → ℝ) : EReal := ((Real.sqrt (sq p q) : ℝ) : EReal)

theorem sq_nonneg' (p q : Fin D → ℝ) : 0 ≤ sq p q := Finset.sum_nonneg fun d _ => sq_nonneg _

theorem sq_eq (p q : Fin D → ℝ) : sq p q = (∑ d, p d * p d) - 2 * (∑ d, p d * q d) + ∑ d, q d * q d := by
  unfold sq
  rw [Finset.mul_sum, ← Finset.sum_sub_distrib, ← Finset.sum_add_distrib]
  exact Finset.sum_congr rfl fun d _ => by ring

theorem dst_le (p : Fin D → ℝ) (q r : Fin D → ℝ) : dst p q ≤ dst p r ↔ ((sq p q : ℝ) : EReal) ≤ ((sq p r : ℝ) : EReal) := by
  unfold dst
  rw [EReal.coe_le_coe_iff, EReal.coe_le_coe_iff, Real.sqrt_le_sqrt_iff (sq_nonneg' _ _)]

theorem dst_lt_top (p q : Fin D → ℝ) : dst p q < ⊤ := EReal.coe_lt_top _

/-- The ideal square root of a squared distance, cut off below at zero. -/
theorem sqrt_max (p q : Fin D → ℝ) : Ideal.sqrt (max ((sq p q : ℝ) : EReal) 0) = dst p q := by
  have h0 : max ((sq p q : ℝ) : EReal) 0 = ((sq p q : ℝ) : EReal) := max_eq_left (by exact_mod_cast sq_nonneg' p q)
  rw [h0]
  show (if sq p q < 0 then ⊥ else ((Real.sqrt (sq p q) : ℝ) : EReal)) = _
  rw [if_neg (not_lt.mpr (sq_nonneg' p q))]
  rfl

theorem dot_coe (p q : Fin D → ℝ) : ∑ d, (p d : EReal) * (q d : EReal) = ((∑ d, p d * q d : ℝ) : EReal) := by
  rw [← coe_sum]
  exact Finset.sum_congr rfl fun d _ => (EReal.coe_mul _ _).symm

/-- The squared distance as `|p|² - 2 p·q + |q|²`. -/
theorem sq_coe (p q : Fin D → ℝ) : (∑ d, (p d : EReal) * p d) - ((2 : ℝ) : EReal) * (∑ d, (p d : EReal) * q d) + (∑ d, (q d : EReal) * q d)
    = ((sq p q : ℝ) : EReal) := by
  rw [dot_coe, dot_coe, dot_coe, sq_eq, EReal.coe_add, EReal.coe_sub, EReal.coe_mul]

/-- The squared distance as `|p|² + ((-2 p)·q + |q|²)`. -/
theorem sq_coe' (p q : Fin D → ℝ) : (∑ d, (p d : EReal) * p d)
      + ((∑ d, (p d : EReal) * ((-2 : ℝ) : EReal) * q d) + (∑ d, (q d : EReal) * q d)) = ((sq p q : ℝ) : EReal) := by
  have h : ∑ d, (p d : EReal) * ((-2 : ℝ) : EReal) * q d = ((-2 * ∑ d, p d * q d : ℝ) : EReal) := by
    rw [Finset.mul_sum, ← coe_sum]
    refine Finset.sum_congr rfl fun d _ => ?_
    rw [← EReal.coe_mul, ← EReal.coe_mul]
    congr 1
    ring
  rw [h, dot_coe, dot_coe, ← EReal.coe_add, ← EReal.coe_add, sq_eq]
  congr 1
  ring

/-- The part of the squared distance that depends on the second point orders the second points as the distance does. -/
theorem part_le (p : Fin D → ℝ) (q r : Fin D → ℝ) :
    ((∑ d, (p d : EReal) * ((-2 : ℝ) : EReal) * q d) + (∑ d, (q d : EReal) * q d)
      ≤ (∑ d, (p d : EReal) * ((-2 : ℝ) : EReal) * r d) + (∑ d, (r d : EReal) * r d)) ↔ dst p q ≤ dst p r := by
  have h : ∀ q : Fin D → ℝ, (∑ d, (p d : EReal) * ((-2 : ℝ) : EReal) * q d) + (∑ d, (q d : EReal) * q d)
      = ((sq p q - ∑ d, p d * p d : ℝ) : EReal) := by
    intro q
    have h : ∑ d, (p d : EReal) * ((-2 : ℝ) : EReal) * q d = ((-2 * ∑ d, p d * q d : ℝ) : EReal) := by
      rw [Finset.mul_sum, ← coe_sum]
      refine Finset.sum_congr rfl fun d _ => ?_
      rw [← EReal.coe_mul, ← EReal.coe_mul]
      congr 1
      ring
    rw [h, dot_coe, ← EReal.coe_add, sq_eq]
    congr 1
    ring
  rw [h, h, dst_le, EReal.coe_le_coe_iff, EReal.coe_le_coe_iff, sub_le_sub_iff_right]

end Cert.Math
-- ==== Proof.Math.Scalar.lean ====
/- Constants, one-hot sums and first-index searches over the extended reals -/
module

public import proofs.«01_k».proof.Proof.Math.Dist

@[expose] public section

noncomputable section

namespace Cert.Math

open Idealize.ShloMosaic

/-! ### Constants -/

theorem bits_top : Ideal.ofBits FTy.f32 0x7F800000#32 = ⊤ := by simp [Ideal.ofBits, Ideal.ieee]
theorem bits_bot : Ideal.ofBits FTy.f32 0xFF800000#32 = ⊥ := by simp [Ideal.ofBits, Ideal.ieee]
theorem bits_two : Ideal.ofBits FTy.f32 0x40000000#32 = ((2 : ℝ) : EReal) := by
  simp [Ideal.ofBits, Ideal.ieee]
  norm_num
  rw [← EReal.coe_mul]
  norm_num
theorem bits_neg_two : Ideal.ofBits FTy.bf16 0xC000#16 = ((-2 : ℝ) : EReal) := by
  simp [Ideal.ofBits, Ideal.ieee]
  norm_num
  rw [← EReal.coe_mul]
  norm_num

/-! ### Words -/

theorem ofNat_inj {a b : ℕ} (ha : a < 2 ^ 31) (hb : b < 2 ^ 31) (h : BitVec.ofNat 32 a = BitVec.ofNat 32 b) : a = b := by
  have := congrArg BitVec.toNat h
  rwa [BitVec.toNat_ofNat, BitVec.toNat_ofNat, Nat.mod_eq_of_lt (by omega), Nat.mod_eq_of_lt (by omega)] at this

/-- Equality of two small words, as a bit. -/
theorem cmpi_eq {a b : ℕ} (ha : a < 2 ^ 31) (hb : b < 2 ^ 31) :
    IntOp.cmpi CmpIPredicate.eq (BitVec.ofNat 32 a) (BitVec.ofNat 32 b) = if a = b then 1#1 else 0#1 := by
  unfold IntOp.cmpi
  by_cases h : a = b
  · subst h; simp
  · have : BitVec.ofNat 32 a ≠ BitVec.ofNat 32 b := fun e => h (ofNat_inj ha hb e)
    show BitVec.ofBool (BitVec.ofNat 32 a == BitVec.ofNat 32 b) = _
    rw [if_neg h, beq_eq_false_iff_ne.mpr this]
    rfl

/-- The bit of an equality, widened and converted: one or zero. -/
theorem onehot (p : Prop) [Decidable p] :
    FloatOps.sitofp (F := Ideal) FTy.f32 (BitVec.setWidth 32 (if p then 1#1 else 0#1)) = if p then (1 : EReal) else 0 := by
  by_cases h : p
  · rw [if_pos h, if_pos h]
    show ((((BitVec.setWidth 32 1#1 : BitVec 32).toInt : ℝ)) : EReal) = 1
    rw [show (BitVec.setWidth 32 1#1 : BitVec 32).toInt = 1 from by decide]
    simp
  · rw [if_neg h, if_neg h]
    show ((((BitVec.setWidth 32 0#1 : BitVec 32).toInt : ℝ)) : EReal) = 0
    rw [show (BitVec.setWidth 32 0#1 : BitVec 32).toInt = 0 from by decide]
    simp

/-- A one-hot row times a column picks an entry. -/
theorem sum_onehot {n : ℕ} (a : Fin n) (v : Fin n → EReal) : ∑ k, (if k = a then (1 : EReal) else 0) * v k = v a := by
  rw [Finset.sum_eq_single a]
  · rw [if_pos rfl, one_mul]
  · intro b _ hb
    rw [if_neg hb, zero_mul]
  · intro h
    exact absurd (Finset.mem_univ a) h

/-- A row masked to one place sums to that entry. -/
theorem sum_masked {n : ℕ} (a : Fin n) (v : Fin n → EReal) : ∑ k, (if k = a then v k else (0 : EReal)) = v a := by
  rw [Finset.sum_ite_eq' Finset.univ a v, if_pos (Finset.mem_univ a)]

/-- The search for the first least entry: the marked columns' least word. -/
theorem search {n : ℕ} [NeZero n] (f : Fin n → EReal) (hn : n < 2 ^ 30) (M : EReal) (hM : M = f (amin f)) (w : BitVec 32) (hw : w = BitVec.ofNat 32 n) :
    Finset.univ.fold IntOp.minsi 2147483647#32 (fun k : Fin n => if f k = M then BitVec.ofNat 32 k.val else w) = BitVec.ofNat 32 (amin f).val := by
  subst hM hw
  exact fold_minsi f hn _ fun _ => rfl

theorem cmpi_fin {n : ℕ} (hn : n < 2 ^ 30) (k a : Fin n) :
    IntOp.cmpi CmpIPredicate.eq (BitVec.ofNat 32 k.val) (BitVec.ofNat 32 a.val) = if k = a then 1#1 else 0#1 := by
  rw [cmpi_eq (by omega) (by omega)]
  simp only [Fin.ext_iff]

end Cert.Math
-- ==== Proof.Math.Spec.lean ====
/- What both programs compute, over real coordinates: patch scores, the image score, the smoothed anomaly map -/
module

public import proofs.«01_k».proof.Proof.Math.Scalar

@[expose] public section

noncomputable section

namespace Cert.Math

open Idealize.ShloMosaic

variable (X : Fin 6272 → Fin 384 → ℝ) (Y : Fin 16384 → Fin 384 → ℝ)

/-- The bank row nearest to a point, the first of equals. -/
def near (p : Fin 384 → ℝ) : Fin 16384 := amin fun k => dst p (Y k)

/-- The score of a patch: its distance to the bank. -/
def score (q : Fin 6272) : EReal := dst (X q) (Y (near Y (X q)))

/-- Patch `p` of image `b`. -/
def row (b : Fin 8) (p : Fin 784) : Fin 6272 := ⟨b.val * 784 + p.val, by omega⟩

/-- The patch of image `b` with the largest score, the first of equals. -/
def best (b : Fin 8) : Fin 784 := amin fun p => -score X Y (row b p)

/-- The bank row nearest to the best patch. -/
def nn (b : Fin 8) : Fin 16384 := near Y (X (row b (best X Y b)))

/-- The bank row `j` places from it, in order of distance. -/
def sup (b : Fin 8) (j : ℕ) : Fin 16384 := pick (fun k => dst (Y (nn X Y b)) (Y k)) j

/-- The distance of the best patch to that bank row. -/
def dsup (b : Fin 8) (j : ℕ) : EReal := dst (X (row b (best X Y b))) (Y (sup X Y b j))

/-- The largest of the nine distances. -/
def dmax (b : Fin 8) : EReal := Finset.univ.fold max ⊥ fun j : Fin 9 => dsup X Y b j.val

/-- The image score: the best patch's score, weighted down by the softmax weight of its nearest bank row. -/
def pred (b : Fin 8) : EReal :=
  (1 - Ideal.div (Ideal.exp (dsup X Y b 0 - dmax X Y b)) (∑ j : Fin 9, Ideal.exp (dsup X Y b j.val - dmax X Y b)))
    * score X Y (row b (best X Y b))

/-- The fold of the maximum over nine places, written out. -/
theorem fold_max_nine (f : ℕ → EReal) : (Finset.univ.fold max ⊥ fun j : Fin 9 => f j.val)
    = max (max (max (max (max (max (max (max (f 0) (f 1)) (f 2)) (f 3)) (f 4)) (f 5)) (f 6)) (f 7)) (f 8) := by
  apply le_antisymm
  · refine (Finset.fold_max_le _).mpr ⟨bot_le, fun j _ => ?_⟩
    fin_cases j <;> simp
  · have h := ((Finset.fold_max_le (s := Finset.univ) (f := fun j : Fin 9 => f j.val) (b := ⊥)
      (Finset.univ.fold max ⊥ fun j : Fin 9 => f j.val)).mp le_rfl).2
    simp only [max_le_iff]
    exact ⟨⟨⟨⟨⟨⟨⟨⟨h 0 (Finset.mem_univ _), h 1 (Finset.mem_univ _)⟩, h 2 (Finset.mem_univ _)⟩, h 3 (Finset.mem_univ _)⟩,
      h 4 (Finset.mem_univ _)⟩, h 5 (Finset.mem_univ _)⟩, h 6 (Finset.mem_univ _)⟩, h 7 (Finset.mem_univ _)⟩, h 8 (Finset.mem_univ _)⟩

/-- The sum over nine places, written out. -/
theorem sum_nine (f : ℕ → EReal) : (∑ j : Fin 9, f j.val)
    = f 0 + f 1 + f 2 + f 3 + f 4 + f 5 + f 6 + f 7 + f 8 := by
  rw [Fin.sum_univ_eq_sum_range f 9]
  simp only [Finset.sum_range_succ, Finset.sum_range_zero, zero_add]

/-- The nearest bank row by squared distance. -/
theorem amin_sq (p : Fin 384 → ℝ) : (amin fun k : Fin 16384 => ((sq p (Y k) : ℝ) : EReal)) = near Y p :=
  amin_congr fun j k => (dst_le p (Y j) (Y k)).symm

end Cert.Math
-- ==== Proof.KernelIdeal.Pay1.lean ====
/- The payloads of the first pipeline, read at an index -/
module

public import proofs.«01_k».proof.Proof.Gen.KernelIdeal.Skeleton
public import proofs.«01_k».proof.Proof.Math.Spec
public import Idealize.ShloMosaic.Lib.Pointwise

@[expose] public section

noncomputable section

namespace Cert.KernelIdeal.Val
open Cert.KernelIdeal Cert.KernelIdeal.Gen Cert.Math
open Idealize.ShloMosaic

/-- The squared norm of a bank row. -/
theorem pay3_apply (y : Vec Ideal S4096x384 .bf16) (k : Fin 4096) :
    k0_pay3 (F := Ideal) y (ix3 0 0 k) = ∑ d : Fin 384, y (ix2 k d) * y (ix2 k d) := by
  pointwise [k0_pay3, k0_pay2, k0_pay1]

/-- What the distance of row `r` and bank row `k` adds to the squared norm of row `r`. -/
def gap (x : Vec Ideal S3136x384 .bf16) (y : Vec Ideal S4096x384 .bf16) (r : Fin 3136) (k : Fin 4096) : EReal :=
  ∑ d : Fin 384, x (ix2 r d) * ((-2 : ℝ) : EReal) * y (ix2 k d) + ∑ d : Fin 384, y (ix2 k d) * y (ix2 k d)

theorem pay5_apply (x : Vec Ideal S3136x384 .bf16) (y : Vec Ideal S4096x384 .bf16) (r : Fin 3136) :
    k0_pay5 (F := Ideal) x y (ix2 r 0) = Finset.univ.fold min ⊤ (gap x y r) := by
  pointwise [k0_pay5, k0_pay4, k0_pay2, k0_pay1]
  rw [bits_top, bits_neg_two]
  rfl

theorem pay6_apply (x : Vec Ideal S3136x384 .bf16) (y : Vec Ideal S4096x384 .bf16) (w : Vec Ideal S3136x1 .f32) (r : Fin 3136) :
    k0_pay6 (F := Ideal) x y w (ix2 r 0) = min (w (ix2 r 0)) (Finset.univ.fold min ⊤ (gap x y r)) := by
  pointwise [k0_pay6, k0_pay4, k0_pay2, k0_pay1]
  rw [bits_top, bits_neg_two]
  rfl

theorem pay7_apply (x : Vec Ideal S3136x384 .bf16) (w : Vec Ideal S3136x1 .f32) (r : Fin 3136) :
    k0_pay7 (F := Ideal) x w (ix2 r 0) = Ideal.sqrt (max ((∑ d : Fin 384, x (ix2 r d) * x (ix2 r d)) + w (ix2 r 0)) 0) := by
  pointwise [k0_pay7, k0_pay2, k0_pay1]

end Cert.KernelIdeal.Val
-- ==== Proof.KernelIdeal.Case1.lean ====
/- What each case of the first body leaves in its buffers, as payloads of its input blocks -/
module

public import proofs.«01_k».proof.Proof.KernelIdeal.Stage1
public import proofs.«01_k».proof.Proof.KernelIdeal.Pay1
public import Idealize.ShloMosaic.Lib.Pipeline.Value

@[expose] public section

set_option maxRecDepth 16384

noncomputable section

namespace Cert.KernelIdeal.Stage1
open Cert.KernelIdeal Cert.KernelIdeal.Gen
open Idealize.ShloMosaic Idealize.ShloMosaic.Tactic

theorem hz2 : (![0, 0] : Fin 2 → Nat) = fun _ => 0 := funext fun a => by fin_cases a <;> rfl
theorem hz3 : (![0, 0, 0] : Fin 3 → Nat) = fun _ => 0 := funext fun a => by fin_cases a <;> rfl

section Cases
variable (c : Dev nD) (i : grid0.Coords) (a2 : Memref sig .tc .vmem S3136x384 .bf16) (h2 : a2.IsWhole)
  (a3 : Memref sig .tc .vmem S4096x384 .bf16) (h3 : a3.IsWhole) (a4 : Memref sig .tc .vmem S3136x1 .f32) (h4 : a4.IsWhole)
  (a5 : Memref sig .tc .vmem S1x1x4096 .f32) (h5 : a5.IsWhole) (a6 : Memref sig .tc .vmem S3136x1 .f32) (h6 : a6.IsWhole)
  (x0 : Vec Ideal S3136x384 .bf16) (x1 : Vec Ideal S4096x384 .bf16) (w : Vec Ideal S3136x1 .f32)

theorem norm_A (q0 q1 q2) : out0_A_3 c i a2 h2 a3 h3 a4 h4 a5 h5 a6 h6 q0 q1 q2 x0 x1 = k0_pay3 x1 := by
  unfold out0_A_3
  rw [View.read_writes_eq_canon _ _ _ (cover0_A_3 c i a2 h2 a3 h3 a4 h4 a5 h5 a6 h6 q0 q1 q2 x0 x1)]
  unfold kernelRun0_A
  dsimp only
  sl_unfold_words
  rw [View.canon_unit_zero hz3]
  simp only [View.readAt_eq_ld, h2.read_unread, h3.read_unread, View.ld_unit_zero (S := S4096x384) hz2]

theorem scr_A (q0 q1 q2) : sout0_A_0 c i a2 h2 a3 h3 a4 h4 a5 h5 a6 h6 q0 q1 q2 x0 x1 = k0_pay5 x0 x1 := by
  unfold sout0_A_0
  rw [View.read_writes_eq_canon _ _ _ (scover0_A_0 c i a2 h2 a3 h3 a4 h4 a5 h5 a6 h6 q0 q1 q2 x0 x1)]
  unfold kernelRun0_A
  dsimp only
  sl_unfold_words
  rw [View.canon_unit_zero hz2]
  simp only [View.readAt_eq_ld, h2.read_unread, h3.read_unread, View.ld_unit_zero (S := S4096x384) hz2, View.ld_unit_zero (S := S3136x384) hz2]

theorem norm_B (q0 q1 q2) : out0_B_3 c i a2 h2 a3 h3 a4 h4 a5 h5 a6 h6 q0 q1 q2 x0 x1 w = k0_pay3 x1 := by
  unfold out0_B_3
  rw [View.read_writes_eq_canon _ _ _ (cover0_B_3 c i a2 h2 a3 h3 a4 h4 a5 h5 a6 h6 q0 q1 q2 x0 x1 w)]
  unfold kernelRun0_B
  dsimp only
  sl_unfold_words
  rw [View.canon_unit_zero hz3]
  simp only [View.readAt_eq_ld, h2.read_unread, h3.read_unread, View.ld_unit_zero (S := S4096x384) hz2]

theorem scr_B (q0 q1 q2) : sout0_B_0 c i a2 h2 a3 h3 a4 h4 a5 h5 a6 h6 q0 q1 q2 x0 x1 w = k0_pay6 x0 x1 w := by
  unfold sout0_B_0
  rw [View.read_writes_eq_canon _ _ _ (scover0_B_0 c i a2 h2 a3 h3 a4 h4 a5 h5 a6 h6 q0 q1 q2 x0 x1 w)]
  unfold kernelRun0_B
  dsimp only
  sl_unfold_words
  rw [View.canon_unit_zero hz2]
  simp only [View.readAt_eq_ld, h2.read_unread, h3.read_unread, h6.read_unread, View.ld_unit_zero (S := S4096x384) hz2, View.ld_unit_zero (S := S3136x384) hz2, View.ld_unit_zero (S := S3136x1) hz2]

theorem norm_C (q0 q1 q2) : out0_C_3 c i a2 h2 a3 h3 a4 h4 a5 h5 a6 h6 q0 q1 q2 x0 x1 w = k0_pay3 x1 := by
  unfold out0_C_3
  rw [View.read_writes_eq_canon _ _ _ (cover0_C_3 c i a2 h2 a3 h3 a4 h4 a5 h5 a6 h6 q0 q1 q2 x0 x1 w)]
  unfold kernelRun0_C
  dsimp only
  sl_unfold_words
  rw [View.canon_unit_zero hz3]
  simp only [View.readAt_eq_ld, h2.read_unread, h3.read_unread, View.ld_unit_zero (S := S4096x384) hz2]

theorem part_C (q0 q1 q2) : out0_C_2 c i a2 h2 a3 h3 a4 h4 a5 h5 a6 h6 q0 q1 q2 x0 x1 w = k0_pay7 x0 (k0_pay6 x0 x1 w) := by
  unfold out0_C_2
  rw [View.read_writes_eq_canon _ _ _ (cover0_C_2 c i a2 h2 a3 h3 a4 h4 a5 h5 a6 h6 q0 q1 q2 x0 x1 w)]
  unfold kernelRun0_C
  dsimp only
  sl_unfold_words
  rw [View.canon_unit_zero hz2, View.readCov_unit_zero (S := S3136x1) _ hz2]
  simp only [View.readAt_eq_ld, h2.read_unread, h3.read_unread, h6.read_unread, View.ld_unit_zero (S := S4096x384) hz2, View.ld_unit_zero (S := S3136x384) hz2, View.ld_unit_zero (S := S3136x1) hz2]

end Cases

end Cert.KernelIdeal.Stage1
-- ==== Proof.KernelIdeal.Arrays1.lean ====
/- The arrays the first pipeline leaves: the patch scores and the bank's squared norms -/
module

public import proofs.«01_k».proof.Proof.KernelIdeal.Case1

@[expose] public section

set_option maxRecDepth 16384

noncomputable section

namespace Cert.KernelIdeal.Stage1
open Cert.KernelIdeal Cert.KernelIdeal.Gen Cert.Math
open Idealize.ShloMosaic Idealize.ShloMosaic.TcCoe
open Idealize.ShloMosaic.Pipeline (Dat Window)

variable (m : Dev nD → Valuation τ sig (Elt Ideal)) (c : Dev nD)

/-- Where each window's block starts. -/
theorem index0 : ∀ t : Fin grid0.N, (win0_0.index t 0 = t.val / 4 ∧ win0_0.index t 1 = 0) ∧ (win0_1.index t 0 = t.val % 4 ∧ win0_1.index t 1 = 0)
    ∧ (win0_2.index t 0 = t.val / 4 ∧ win0_2.index t 1 = 0) ∧ (win0_3.index t 0 = t.val / 4 ∧ win0_3.index t 1 = 0 ∧ win0_3.index t 2 = t.val % 4) := by
  decide +kernel

/-- The embedding's block. -/
theorem iblk_emb (t : Fin cfg0.N) (r : Fin 3136) (d : Fin 384) (h : t.val / 4 * 3136 + r.val < 6272) :
    (iblk m c 0 t : Vec Ideal S3136x384 .bf16) (ix2 r d) = (V m c main_v0 : Vec Ideal S6272x384 .bf16) (ix2 ⟨t.val / 4 * 3136 + r.val, h⟩ d) := by
  obtain ⟨hi, -, -, -⟩ := index0 t
  unfold iblk
  rw [View.read_apply]
  show V m c main_v0 _ = V m c main_v0 _
  congr 1
  funext a
  apply Fin.ext
  match a with
  | ⟨0, _⟩ => show win0_0.index t 0 * 3136 + 1 * r.val = t.val / 4 * 3136 + r.val; rw [hi.1]; omega
  | ⟨1, _⟩ => show win0_0.index t 1 * 384 + 1 * d.val = d.val; rw [hi.2]; omega

/-- The bank's block. -/
theorem iblk_bank (t : Fin cfg0.N) (k : Fin 4096) (d : Fin 384) (h : t.val % 4 * 4096 + k.val < 16384) :
    (iblk m c 1 t : Vec Ideal S4096x384 .bf16) (ix2 k d) = (V m c main_v1 : Vec Ideal S16384x384 .bf16) (ix2 ⟨t.val % 4 * 4096 + k.val, h⟩ d) := by
  obtain ⟨-, hi, -, -⟩ := index0 t
  unfold iblk
  rw [View.read_apply]
  show V m c main_v1 _ = V m c main_v1 _
  congr 1
  funext a
  apply Fin.ext
  match a with
  | ⟨0, _⟩ => show win0_1.index t 0 * 4096 + 1 * k.val = t.val % 4 * 4096 + k.val; rw [hi.1]; omega
  | ⟨1, _⟩ => show win0_1.index t 1 * 384 + 1 * d.val = d.val; rw [hi.2]; omega

theorem idx_inj2 : ∀ t t' : Fin grid0.N, t.val % 4 = 3 → t'.val % 4 = 3 → win0_2.index t = win0_2.index t' → t = t' := by decide +kernel

theorem disjoint2 : ∀ t t' : Fin cfg0.N, (cfg0.win 2).flush t = true → (cfg0.win 2).flush t' = true → t ≠ t' →
    Disjoint ((cfg0.win 2).blk t).view.set ((cfg0.win 2).blk t').view.set :=
  fun t t' h h' hne => (cfg0.win 2).disjoint_blk fun e => hne (idx_inj2 t t' ((flush0_2 t).mp h) ((flush0_2 t').mp h') e)

theorem idx_inj3 : ∀ t t' : Fin grid0.N, win0_3.index t = win0_3.index t' → t = t' := by decide +kernel

theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun e => hne (idx_inj3 t t' e)

/-- The array of squared norms, block by block. -/
theorem norm_read (t : Fin cfg0.N) (k : Fin 4096) (h : t.val / 4 < 2) (h' : t.val % 4 * 4096 + k.val < 16384) :
    ((dat m c).arrAt 3 cfg0.N : Vec Ideal S2x1x16384 .f32) (ix3 ⟨t.val / 4, h⟩ 0 ⟨t.val % 4 * 4096 + k.val, h'⟩)
      = (outsAt0 m c t.val t.isLt).2.1 (ix3 0 0 k) := by
  obtain ⟨-, -, -, hi⟩ := index0 t
  have hb := congrFun ((dat m c).read_blk_arrAt_eq_flushed 3 disjoint3 cfg0.N t t.isLt (flush0_3 t)) (ix3 0 0 k)
  rw [View.read_apply] at hb
  have hr : (dat m c).flushed 3 t (ix3 0 0 k) = (outsAt0 m c t.val t.isLt).2.1 (ix3 0 0 k) := by
    show (cfg0.win 3).cut (grid0.coords t) ((dat m c).after 3 t) (ix3 0 0 k) = _
    rw [after0_3]
    rfl
  refine Eq.trans ?_ (hb.trans hr)
  show (dat m c).arrAt 3 cfg0.N _ = (dat m c).arrAt 3 cfg0.N _
  congr 1
  funext a
  apply Fin.ext
  match a with
  | ⟨0, _⟩ => show t.val / 4 = win0_3.index t 0 * 1 + 1 * 0; rw [hi.1]; omega
  | ⟨1, _⟩ => show 0 = win0_3.index t 1 * 1 + 1 * 0; rw [hi.2.1]
  | ⟨2, _⟩ => show t.val % 4 * 4096 + k.val = win0_3.index t 2 * 4096 + 1 * k.val; rw [hi.2.2]; omega

/-- The array of scores, block by block. -/
theorem part_read (t : Fin cfg0.N) (r : Fin 3136) (hf : t.val % 4 = 3) (h : t.val / 4 * 3136 + r.val < 6272) :
    ((dat m c).arrAt 2 cfg0.N : Vec Ideal S6272x1 .f32) (ix2 ⟨t.val / 4 * 3136 + r.val, h⟩ 0)
      = (outsAt0 m c t.val t.isLt).1 (ix2 r 0) := by
  obtain ⟨-, -, hi, -⟩ := index0 t
  have hb := congrFun ((dat m c).read_blk_arrAt_eq_flushed 2 disjoint2 cfg0.N t t.isLt ((flush0_2 t).mpr hf)) (ix2 r 0)
  rw [View.read_apply] at hb
  have hr : (dat m c).flushed 2 t (ix2 r 0) = (outsAt0 m c t.val t.isLt).1 (ix2 r 0) := by
    show (cfg0.win 2).cut (grid0.coords t) ((dat m c).after 2 t) (ix2 r 0) = _
    rw [after0_2]
    rfl
  refine Eq.trans ?_ (hb.trans hr)
  show (dat m c).arrAt 2 cfg0.N _ = (dat m c).arrAt 2 cfg0.N _
  congr 1
  funext a
  apply Fin.ext
  match a with
  | ⟨0, _⟩ => show t.val / 4 * 3136 + r.val = win0_2.index t 0 * 3136 + 1 * r.val; rw [hi.1]; omega
  | ⟨1, _⟩ => show 0 = win0_2.index t 1 * 1 + 1 * 0; rw [hi.2]

end Cert.KernelIdeal.Stage1
-- ==== Proof.KernelIdeal.Stage1Value.lean ====
/- The patch scores and squared norms in the arrays of the first pipeline, for real inputs -/
module

public import proofs.«01_k».proof.Proof.KernelIdeal.Arrays1

@[expose] public section

set_option maxRecDepth 16384

noncomputable section

namespace Cert.Math
open Idealize.ShloMosaic

/-- The least of four consecutive blocks' least values is the least of all. -/
theorem min_blocks (G : Fin 16384 → EReal) (f : Fin 4 → EReal)
    (hf : ∀ s : Fin 4, f s = Finset.univ.fold min ⊤ fun k : Fin 4096 => G ⟨s.val * 4096 + k.val, by omega⟩) :
    min (min (min (f 0) (f 1)) (f 2)) (f 3) = Finset.univ.fold min ⊤ G := by
  apply le_antisymm
  · refine (Finset.le_fold_min _).mpr ⟨le_top, fun k _ => ?_⟩
    have hk : f ⟨k.val / 4096, by omega⟩ ≤ G k := by
      rw [hf]
      refine (((Finset.le_fold_min _).mp le_rfl).2 (⟨k.val % 4096, by omega⟩ : Fin 4096) (Finset.mem_univ _)).trans (le_of_eq ?_)
      congr 1
      apply Fin.ext
      show k.val / 4096 * 4096 + k.val % 4096 = k.val
      omega
    refine le_trans ?_ hk
    generalize (⟨k.val / 4096, by omega⟩ : Fin 4) = s
    fin_cases s
    · exact (min_le_left _ _).trans ((min_le_left _ _).trans (min_le_left _ _))
    · exact (min_le_left _ _).trans ((min_le_left _ _).trans (min_le_right _ _))
    · exact (min_le_left _ _).trans (min_le_right _ _)
    · exact min_le_right _ _
  · have h : ∀ s, Finset.univ.fold min ⊤ G ≤ f s := fun s => by
      rw [hf]
      refine (Finset.le_fold_min _).mpr ⟨le_top, fun k _ => ?_⟩
      exact ((Finset.le_fold_min _).mp le_rfl).2 _ (Finset.mem_univ _)
    exact le_min (le_min (le_min (h 0) (h 1)) (h 2)) (h 3)

end Cert.Math

namespace Cert.KernelIdeal.Stage1
open Cert.KernelIdeal Cert.KernelIdeal.Gen Cert.KernelIdeal.Val Cert.Math
open Idealize.ShloMosaic Idealize.ShloMosaic.TcCoe

variable (m : Dev nD → Valuation τ sig (Elt Ideal)) (c : Dev nD)

theorem pay3_real (y : Vec Ideal S4096x384 .bf16) (k : Fin 4096) (z : Fin 384 → ℝ) (h : ∀ d, y (ix2 k d) = (z d : EReal)) :
    k0_pay3 (F := Ideal) y (ix3 0 0 k) = ∑ d : Fin 384, (z d : EReal) * (z d : EReal) := by
  rw [pay3_apply]
  exact Finset.sum_congr rfl fun d _ => by rw [h]

theorem pay7_real (x : Vec Ideal S3136x384 .bf16) (w : Vec Ideal S3136x1 .f32) (r : Fin 3136) (z : Fin 384 → ℝ) (h : ∀ d, x (ix2 r d) = (z d : EReal)) :
    k0_pay7 (F := Ideal) x w (ix2 r 0) = Ideal.sqrt (max ((∑ d : Fin 384, (z d : EReal) * (z d : EReal)) + w (ix2 r 0)) 0) := by
  rw [pay7_apply]
  simp only [h]

theorem gap_real (x : Vec Ideal S3136x384 .bf16) (y : Vec Ideal S4096x384 .bf16) (r : Fin 3136) (k : Fin 4096) (z w : Fin 384 → ℝ)
    (h : ∀ d, x (ix2 r d) = (z d : EReal)) (h' : ∀ d, y (ix2 k d) = (w d : EReal)) :
    gap x y r k = ∑ d : Fin 384, (z d : EReal) * ((-2 : ℝ) : EReal) * (w d : EReal) + ∑ d : Fin 384, (w d : EReal) * (w d : EReal) := by
  unfold gap
  simp only [h, h']

theorem norm_eq (t : Fin cfg0.N) : (outsAt0 m c t.val t.isLt).2.1 = k0_pay3 (iblk m c 1 t) := by
  have hN : t.val < 8 := lt_of_lt_of_eq t.isLt (show cfg0.N = 8 from N_0)
  by_cases h0 : t.val % 4 = 0
  · rw [outsAt0_A m c t h0 (by omega) (by omega)]; dsimp only; exact norm_A ..
  · by_cases h2 : t.val % 4 = 3
    · rw [outsAt0_C m c t h0 (by omega) h2]; dsimp only; exact norm_C ..
    · rw [outsAt0_B m c t h0 (by omega) h2]; dsimp only; exact norm_B ..

theorem scr_first (t : Fin cfg0.N) (h : t.val % 4 = 0) : (outsAt0 m c t.val t.isLt).2.2 = k0_pay5 (iblk m c 0 t) (iblk m c 1 t) := by
  rw [outsAt0_A m c t h (by omega) (by omega)]; dsimp only; exact scr_A ..

theorem scr_next (t : Fin cfg0.N) (h : 1 ≤ t.val % 4) (h' : ¬t.val % 4 = 3) :
    (outsAt0 m c t.val t.isLt).2.2 = k0_pay6 (iblk m c 0 t) (iblk m c 1 t) (outsAt0 m c (t.val - 1) (Nat.lt_of_le_of_lt (Nat.sub_le _ _) t.isLt)).2.2 := by
  rw [outsAt0_B m c t (by omega) h h']; dsimp only; exact scr_B ..

theorem part_last (t : Fin cfg0.N) (h : t.val % 4 = 3) :
    (outsAt0 m c t.val t.isLt).1 = k0_pay7 (iblk m c 0 t) (k0_pay6 (iblk m c 0 t) (iblk m c 1 t) (outsAt0 m c (t.val - 1) (Nat.lt_of_le_of_lt (Nat.sub_le _ _) t.isLt)).2.2) := by
  rw [outsAt0_C m c t (by omega) (by omega) h]; dsimp only; exact part_C ..

variable (X : Fin 6272 → Fin 384 → ℝ) (Y : Fin 16384 → Fin 384 → ℝ)
  (hX : ∀ q d, (V m c main_v0 : Vec Ideal S6272x384 .bf16) (ix2 q d) = (X q d : EReal))
  (hY : ∀ k d, (V m c main_v1 : Vec Ideal S16384x384 .bf16) (ix2 k d) = (Y k d : EReal))

include hY in
/-- The first array of squared norms: the bank's, row by row. -/
theorem norm_value (k : Fin 16384) :
    ((dat m c).arrAt 3 cfg0.N : Vec Ideal S2x1x16384 .f32) (ix3 0 0 k) = ∑ d : Fin 384, (Y k d : EReal) * (Y k d : EReal) := by
  have hN : cfg0.N = 8 := N_0
  let t : Fin cfg0.N := ⟨k.val / 4096, by omega⟩
  have h1 : t.val / 4 = 0 := by show k.val / 4096 / 4 = 0; omega
  have h2 : t.val % 4 * 4096 + k.val % 4096 = k.val := by show k.val / 4096 % 4 * 4096 + k.val % 4096 = k.val; omega
  have e := norm_read m c t ⟨k.val % 4096, by omega⟩ (by omega) (by show t.val % 4 * 4096 + k.val % 4096 < 16384; omega)
  have e3 : (ix3 (⟨t.val / 4, by omega⟩ : Fin 2) (0 : Fin 1) (⟨t.val % 4 * 4096 + k.val % 4096, by omega⟩ : Fin 16384)) = ix3 0 0 k := by
    congr 1
    · exact Fin.ext h1
    · exact Fin.ext h2
  rw [← e3]
  refine e.trans ?_
  have hk : (⟨t.val % 4 * 4096 + (⟨k.val % 4096, by omega⟩ : Fin 4096).val, by show t.val % 4 * 4096 + k.val % 4096 < 16384; omega⟩ : Fin 16384) = k := Fin.ext h2
  rw [norm_eq]
  refine pay3_real _ _ _ fun d => ?_
  rw [iblk_bank m c t ⟨k.val % 4096, by omega⟩ d (by show t.val % 4 * 4096 + k.val % 4096 < 16384; omega), hY, hk]

/-- What bank row `k` adds to the squared norm of a point, for their squared distance. -/
def part (p : Fin 384 → ℝ) (k : Fin 16384) : EReal :=
  ∑ d : Fin 384, (p d : EReal) * ((-2 : ℝ) : EReal) * (Y k d : EReal) + ∑ d : Fin 384, (Y k d : EReal) * (Y k d : EReal)

include hX hY in
theorem gap_eq (t : Fin cfg0.N) (r : Fin 3136) (k : Fin 4096) (q : Fin 6272) (hq : q.val = t.val / 4 * 3136 + r.val) (h : t.val % 4 * 4096 + k.val < 16384) :
    gap (iblk m c 0 t) (iblk m c 1 t) r k = part Y (X q) ⟨t.val % 4 * 4096 + k.val, h⟩ := by
  have e : (⟨t.val / 4 * 3136 + r.val, by omega⟩ : Fin 6272) = q := Fin.ext hq.symm
  refine gap_real _ _ _ _ _ _ (fun d => ?_) fun d => ?_
  · rw [iblk_emb m c t r d (by omega), hX, e]
  · rw [iblk_bank m c t k d h, hY]

include hX hY in
/-- The array of scores: every patch's. -/
theorem score_value (q : Fin 6272) :
    ((dat m c).arrAt 2 cfg0.N : Vec Ideal S6272x1 .f32) (ix2 q 0) = score X Y q := by
  have hN : cfg0.N = 8 := N_0
  let T : (s : Fin 4) → Fin cfg0.N := fun s => ⟨q.val / 3136 * 4 + s.val, by omega⟩
  have hT : ∀ s, (T s).val = q.val / 3136 * 4 + s.val := fun _ => rfl
  let r : Fin 3136 := ⟨q.val % 3136, by omega⟩
  have hq : ∀ s, q.val = (T s).val / 4 * 3136 + r.val := fun s => by
    rw [hT]; show q.val = (q.val / 3136 * 4 + s.val) / 4 * 3136 + q.val % 3136; omega
  have e := part_read m c (T 3) r (by rw [hT]; show (q.val / 3136 * 4 + 3) % 4 = 3; omega) (by have := hq 3; omega)
  have e2 : q = ⟨(T 3).val / 4 * 3136 + r.val, by have := hq 3; omega⟩ := Fin.ext (hq 3)
  refine (congrArg (fun z => ((dat m c).arrAt 2 cfg0.N : Vec Ideal S6272x1 .f32) (ix2 z 0)) e2).trans (e.trans ?_)
  have hs : ∀ s, Finset.univ.fold min ⊤ (gap (iblk m c 0 (T s)) (iblk m c 1 (T s)) r)
      = Finset.univ.fold min ⊤ fun k : Fin 4096 => part Y (X q) ⟨s.val * 4096 + k.val, by omega⟩ := fun s => by
    refine congrArg (fun f : Fin 4096 → EReal => Finset.univ.fold min ⊤ f) (funext fun k => ?_)
    have h4 : (T s).val % 4 = s.val := by rw [hT]; omega
    rw [gap_eq m c X Y hX hY (T s) r k q (hq s) (by rw [h4]; omega)]
    congr 1
    exact Fin.ext (by show (T s).val % 4 * 4096 + k.val = s.val * 4096 + k.val; rw [h4])
  rw [part_last m c (T 3) (by rw [hT]; show (q.val / 3136 * 4 + 3) % 4 = 3; omega)]
  rw [pay7_real _ _ r (X q) (fun d => by rw [iblk_emb m c (T 3) r d (by have := hq 3; omega), hX, ← e2]), pay6_apply]
  have s2 : (outsAt0 m c ((T 3).val - 1) (Nat.lt_of_le_of_lt (Nat.sub_le _ _) (T 3).isLt)).2.2 = _ :=
    scr_next m c (T 2) (by rw [hT]; show 1 ≤ (q.val / 3136 * 4 + 2) % 4; omega) (by rw [hT]; show ¬(q.val / 3136 * 4 + 2) % 4 = 3; omega)
  have s1 : (outsAt0 m c ((T 2).val - 1) (Nat.lt_of_le_of_lt (Nat.sub_le _ _) (T 2).isLt)).2.2 = _ :=
    scr_next m c (T 1) (by rw [hT]; show 1 ≤ (q.val / 3136 * 4 + 1) % 4; omega) (by rw [hT]; show ¬(q.val / 3136 * 4 + 1) % 4 = 3; omega)
  have s0 : (outsAt0 m c ((T 1).val - 1) (Nat.lt_of_le_of_lt (Nat.sub_le _ _) (T 1).isLt)).2.2 = _ :=
    scr_first m c (T 0) (by rw [hT]; show (q.val / 3136 * 4 + 0) % 4 = 0; omega)
  rw [s2, pay6_apply, s1, pay6_apply, s0, pay5_apply, hs 0, hs 1, hs 2, hs 3]
  rw [min_blocks (part Y (X q)) (fun s => Finset.univ.fold min ⊤ fun k : Fin 4096 => part Y (X q) ⟨s.val * 4096 + k.val, by omega⟩) (fun _ => rfl)]
  rw [fold_min]
  have ha : amin (part Y (X q)) = near Y (X q) := amin_congr fun j k => part_le (X q) (Y j) (Y k)
  rw [ha]
  unfold part
  rw [sq_coe']
  exact sqrt_max _ _

end Cert.KernelIdeal.Stage1
-- ==== Proof.KernelIdeal.Rounds.lean ====
/- The nine rounds of the nearest-neighbour search: what each selects -/
module

public import proofs.«01_k».proof.Proof.Gen.KernelIdeal.Skeleton
public import proofs.«01_k».proof.Proof.KernelIdeal.Stage2
public import proofs.«01_k».proof.Proof.Math.Scalar

@[expose] public section

noncomputable section

namespace Cert.KernelIdeal.Val
open Cert.KernelIdeal Cert.KernelIdeal.Gen Cert.KernelIdeal.Stage2 Cert.Math
open Idealize.ShloMosaic

/-- The least entry of each row. -/
def rowMin (C : FVec Ideal S8x16384 .f32) : FVec Ideal S8 .f32 :=
  multiReduction .minimumf [1] S8 C 0x7F800000#32 reduces_S8x16384_S8 (.inl rfl) rfl

/-- The mark of the first least entry of each row. -/
def sel (C : FVec Ideal S8x16384 .f32) : IVec S8x16384 1 :=
  cmpi .eq kcols (broadcastTo S8x16384 (shapeCast S8x1 (multiReductionI .minsi [1] S8
    (select (cmpf .oeq C (broadcastTo S8x16384 (shapeCast S8x1 (rowMin C) shapeCasts_S8_S8x1) broadcasts_S8x1_S8x16384)) kcols
      (broadcast S8x16384 16384#32)) 2147483647#32 reduces_S8x16384_S8 rfl) shapeCasts_S8_S8x1) broadcasts_S8x1_S8x16384)

/-- The marked entry of each row. -/
def take (M : IVec S8x16384 1) (D : FVec Ideal S8x16384 .f32) : FVec Ideal S8x1 .f32 :=
  shapeCast S8x1 (multiReduction .add [1] S8 (select M D (broadcast S8x16384 (Scalar.ofBits .f32 0x00000000#32))) 0x00000000#32
    reduces_S8x16384_S8 (.inl rfl) rfl) shapeCasts_S8_S8x1

/-- The rows after `j` rounds, each of which raises the marked entry to infinity. -/
def after (C : FVec Ideal S8x16384 .f32) : ℕ → FVec Ideal S8x16384 .f32
  | 0 => C
  | j + 1 => select (sel (after C j)) (broadcast S8x16384 (Scalar.ofBits .f32 0x7F800000#32)) (after C j)

theorem rowMin_apply (C : FVec Ideal S8x16384 .f32) (b : Fin 8) :
    rowMin C (ix1 b) = C (ix2 b (amin fun k : Fin 16384 => C (ix2 b k))) := by
  pointwise [rowMin]
  rw [bits_top, fold_min]

theorem sel_apply (C : FVec Ideal S8x16384 .f32) (b : Fin 8) (k : Fin 16384) :
    sel C (ix2 b k) = if k = (amin fun k : Fin 16384 => C (ix2 b k)) then 1#1 else 0#1 := by
  pointwise [sel, kcols]
  rw [search (n := 16384) (fun k => C (ix2 b k)) (by norm_num) (rowMin C (ix1 b)) (rowMin_apply C b) _ rfl]
  exact cmpi_fin (n := 16384) (by norm_num) k _

theorem take_apply (C D : FVec Ideal S8x16384 .f32) (b : Fin 8) :
    take (sel C) D (ix2 b 0) = D (ix2 b (amin fun k : Fin 16384 => C (ix2 b k))) := by
  pointwise [take]
  refine Eq.trans (Finset.sum_congr rfl fun k _ => ?_) (sum_masked (n := 16384) _ fun k => D (ix2 b k))
  rw [sel_apply]
  split <;> rfl

theorem after_apply (C : FVec Ideal S8x16384 .f32) (b : Fin 8) (j : ℕ) (k : Fin 16384) :
    after C j (ix2 b k) = cur (fun k : Fin 16384 => C (ix2 b k)) j k := by
  induction j generalizing k with
  | zero => rfl
  | succ j ih =>
    have hc : (fun k : Fin 16384 => after C j (ix2 b k)) = cur (fun k : Fin 16384 => C (ix2 b k)) j := funext ih
    show Scalar.select (sel (after C j) (ix2 b k)) (Ideal.ofBits .f32 0x7F800000#32) (after C j (ix2 b k)) = _
    rw [sel_apply, hc, ih]
    rw [show cur (fun k : Fin 16384 => C (ix2 b k)) (j + 1) = Function.update (cur (fun k : Fin 16384 => C (ix2 b k)) j)
      (amin (cur (fun k : Fin 16384 => C (ix2 b k)) j)) ⊤ from rfl, Function.update_apply, bits_top]
    split <;> rfl

/-- The entry round `j + 1` selects. -/
def col (C D : FVec Ideal S8x16384 .f32) (j : ℕ) : FVec Ideal S8x1 .f32 := take (sel (after C j)) D

theorem col_apply (C D : FVec Ideal S8x16384 .f32) (b : Fin 8) (j : ℕ) :
    col C D j (ix2 b 0) = D (ix2 b (pick (fun k : Fin 16384 => C (ix2 b k)) j)) := by
  unfold col
  rw [take_apply]
  have hc : (fun k : Fin 16384 => after C j (ix2 b k)) = cur (fun k : Fin 16384 => C (ix2 b k)) j := funext (after_apply C b j)
  rw [hc]
  rfl

/-! ### The body's rounds -/

section Body
variable (x0 : Vec Ideal S6272x384 .bf16) (x1 : Vec Ideal S16384x384 .bf16) (x2 : Vec Ideal S8x784 .f32) (x4 : Vec Ideal S1x16384 .f32)

/-- The distances of the nearest rows to the bank. -/
def dn : FVec Ideal S8x16384 .f32 := k1_pay9 (w14 x0 x1 x2 x4) (w27 x0 x1 x2 x4) kcols (w39 x0 x1 x2 x4) (w42 x0 x1 x2 x4)

/-- The selected distance of round `j + 1`. -/
abbrev cj (j : ℕ) : FVec Ideal S8x1 .f32 := col (dn x0 x1 x2 x4) (w70 x0 x1 x2 x4) j

theorem w84_eq : w84 x0 x1 x2 x4 = cj x0 x1 x2 x4 0 := rfl
theorem w86_eq : w86 x0 x1 x2 x4 = after (dn x0 x1 x2 x4) 1 := rfl
theorem w87_eq : w87 x0 x1 x2 x4 = rowMin (after (dn x0 x1 x2 x4) 1) := rfl
theorem w100_eq : w100 x0 x1 x2 x4 = cj x0 x1 x2 x4 1 := rfl
theorem w116_eq : w116 x0 x1 x2 x4 = cj x0 x1 x2 x4 2 := rfl
theorem w118_eq : w118 x0 x1 x2 x4 = after (dn x0 x1 x2 x4) 3 := rfl
theorem w128_eq : w128 x0 x1 x2 x4 = sel (after (dn x0 x1 x2 x4) 3) := rfl
theorem w132_eq : w132 x0 x1 x2 x4 = cj x0 x1 x2 x4 3 := rfl
theorem w148_eq : w148 x0 x1 x2 x4 = cj x0 x1 x2 x4 4 := rfl
theorem w164_eq : w164 x0 x1 x2 x4 = cj x0 x1 x2 x4 5 := rfl
theorem w166_eq : w166 x0 x1 x2 x4 = after (dn x0 x1 x2 x4) 6 := rfl
theorem w180_eq : w180 x0 x1 x2 x4 = cj x0 x1 x2 x4 6 := rfl
theorem w196_eq : w196 x0 x1 x2 x4 = cj x0 x1 x2 x4 7 := rfl
theorem w212_eq : w212 x0 x1 x2 x4 = cj x0 x1 x2 x4 8 := rfl

/-- The last two payloads, over the nine selected distances. -/
theorem wpred_eq : wpred x0 x1 x2 x4 = k1_pay40 (w3 x0 x1 x2 x4) (cj x0 x1 x2 x4 1) (cj x0 x1 x2 x4 2) (cj x0 x1 x2 x4 3) (cj x0 x1 x2 x4 4)
    (cj x0 x1 x2 x4 5) (cj x0 x1 x2 x4 6) (cj x0 x1 x2 x4 7) (cj x0 x1 x2 x4 8)
    (w220 x0 x1 x2 x4) (subf (cj x0 x1 x2 x4 0) (w220 x0 x1 x2 x4)) := rfl

theorem w220_eq : w220 x0 x1 x2 x4 = maximumf (maximumf (maximumf (maximumf (maximumf (maximumf (maximumf (maximumf (cj x0 x1 x2 x4 0)
    (cj x0 x1 x2 x4 1)) (cj x0 x1 x2 x4 2)) (cj x0 x1 x2 x4 3)) (cj x0 x1 x2 x4 4)) (cj x0 x1 x2 x4 5)) (cj x0 x1 x2 x4 6))
    (cj x0 x1 x2 x4 7)) (cj x0 x1 x2 x4 8) := rfl

end Body

end Cert.KernelIdeal.Val
-- ==== Proof.KernelIdeal.Pred.lean ====
/- The image score the second body computes -/
module

public import proofs.«01_k».proof.Proof.KernelIdeal.Rounds
public import proofs.«01_k».proof.Proof.Math.Spec

@[expose] public section

noncomputable section

namespace Cert.KernelIdeal.Val
open Cert.KernelIdeal Cert.KernelIdeal.Gen Cert.KernelIdeal.Stage2 Cert.Math
open Idealize.ShloMosaic

theorem ld0 (x : Vec Ideal S8x784 .f32) : View.ld x r1_0 = x := View.ld_unit_zero (by funext a; fin_cases a <;> rfl) _ x
theorem ld1 (x : Vec Ideal S6272x384 .bf16) : View.ld x r1_1 = x := View.ld_unit_zero (by funext a; fin_cases a <;> rfl) _ x
theorem ld2 (x : Vec Ideal S16384x384 .bf16) : View.ld x r1_2 = x := View.ld_unit_zero (by funext a; fin_cases a <;> rfl) _ x
theorem ld3 (x : Vec Ideal S1x16384 .f32) : View.ld x r1_3 = x := View.ld_unit_zero (by funext a; fin_cases a <;> rfl) _ x
theorem ld5 (x : Vec Ideal S224x28 .f32) : View.ld x r1_5 = x := View.ld_unit_zero (by funext a; fin_cases a <;> rfl) _ x

section Body
variable (x0 : Vec Ideal S6272x384 .bf16) (x1 : Vec Ideal S16384x384 .bf16) (x2 : Vec Ideal S8x784 .f32) (x4 : Vec Ideal S1x16384 .f32)
variable (X : Fin 6272 → Fin 384 → ℝ) (Y : Fin 16384 → Fin 384 → ℝ)

/-- The second body's inputs are the embedding, the bank, the patch scores and the bank's squared norms. -/
structure Inputs : Prop where
  emb : ∀ q d, x0 (ix2 q d) = (X q d : EReal)
  bank : ∀ k d, x1 (ix2 k d) = (Y k d : EReal)
  score : ∀ b p, x2 (ix2 b p) = score X Y (row b p)
  norm : ∀ k, x4 (ix2 0 k) = ∑ d : Fin 384, (Y k d : EReal) * (Y k d : EReal)

variable {x0 x1 x2 x4 X Y} (h : Inputs x0 x1 x2 x4 X Y)
include h

theorem w39_apply (b : Fin 8) (k : Fin 16384) : w39 x0 x1 x2 x4 (ix2 b k) = ((sq (X (row b (best X Y b))) (Y k) : ℝ) : EReal) := by
  unfold w39
  rw [ld0, ld1, ld2, ld3]
  pointwise [k1_pay7, k1_pay3, k1_pay4, k1_pay5, k1_pay6]
  have hx2 : (fun p : Fin 784 => x2 (ix2 b p)) = fun p => score X Y (row b p) := funext (h.score b)
  have hs := search (n := 784) (fun p => -x2 (ix2 b p)) (by norm_num)
    (-(Finset.univ.fold max (Ideal.ofBits FTy.f32 4286578688#32) fun p : Fin 784 => x2 (ix2 b p))) (by
      rw [bits_bot, fold_max]) 784#32 rfl
  simp only [neg_inj] at hs
  rw [hs]
  have hb : (amin fun p : Fin 784 => -x2 (ix2 b p)) = best X Y b := by
    exact congrArg amin (funext fun p => by rw [h.score b p])
  rw [hb]
  have hw : IntOp.addi (BitVec.ofNat 32 (best X Y b).val) (IntOp.muli (BitVec.ofNat 32 b.val) 784#32)
      = BitVec.ofNat 32 (row b (best X Y b)).val := by
    show BitVec.ofNat 32 (best X Y b).val + BitVec.ofNat 32 b.val * BitVec.ofNat 32 784 = _
    rw [← BitVec.ofNat_mul, ← BitVec.ofNat_add, Nat.add_comm]
    rfl
  rw [hw]
  have hg : ∀ d : Fin 384, (∑ q : Fin 6272, FloatOps.sitofp (F := Ideal) FTy.f32 (BitVec.setWidth 32
      (IntOp.cmpi CmpIPredicate.eq (BitVec.ofNat 32 q.val) (BitVec.ofNat 32 (row b (best X Y b)).val))) * x0 (ix2 q d))
      = (X (row b (best X Y b)) d : EReal) := by
    intro d
    rw [← h.emb, ← sum_onehot (row b (best X Y b)) fun q => x0 (ix2 q d)]
    refine Finset.sum_congr rfl fun q _ => ?_
    rw [cmpi_fin (n := 6272) (by norm_num), onehot]
  simp only [hg]
  simp only [h.bank, h.norm, bits_two]
  exact sq_coe _ _

theorem nn_eq (b : Fin 8) : (amin fun k : Fin 16384 => w39 x0 x1 x2 x4 (ix2 b k)) = nn X Y b :=
  (congrArg amin (funext fun k => w39_apply h b k)).trans (amin_sq Y _)

theorem w42_apply (b : Fin 8) (k : Fin 16384) : w42 x0 x1 x2 x4 (ix2 b k) = ((sq (X (row b (best X Y b))) (Y (nn X Y b)) : ℝ) : EReal) := by
  have e : w42 x0 x1 x2 x4 (ix2 b k) = rowMin (w39 x0 x1 x2 x4) (ix1 b) := by
    unfold w42
    pointwise [k1_pay8]
    pointwise [rowMin]
    rfl
  rw [e, rowMin_apply, nn_eq h, w39_apply h]

theorem dn_apply (b : Fin 8) (k : Fin 16384) : dn x0 x1 x2 x4 (ix2 b k) = dst (Y (nn X Y b)) (Y k) := by
  unfold dn w14 w27
  rw [ld2, ld3]
  pointwise [k1_pay9, k1_pay5, k1_pay6, kcols]
  have hm := nn_eq h b
  have hs : Finset.univ.fold IntOp.minsi 2147483647#32 (fun k : Fin 16384 =>
      if w39 x0 x1 x2 x4 (ix2 b k) = w42 x0 x1 x2 x4 (ix2 b k) then BitVec.ofNat 32 k.val else 16384#32) = BitVec.ofNat 32 (nn X Y b).val := by
    rw [← hm, ← search (n := 16384) (fun k => w39 x0 x1 x2 x4 (ix2 b k)) (by norm_num) _ rfl 16384#32 rfl]
    refine congrArg (fun f : Fin 16384 → BitVec 32 => Finset.univ.fold IntOp.minsi 2147483647#32 f) (funext fun k => ?_)
    rw [w42_apply h, hm, w39_apply h b (nn X Y b)]
  rw [hs]
  have hg : ∀ d : Fin 384, (∑ q : Fin 16384, FloatOps.sitofp (F := Ideal) FTy.f32 (BitVec.setWidth 32
      (IntOp.cmpi CmpIPredicate.eq (BitVec.ofNat 32 q.val) (BitVec.ofNat 32 (nn X Y b).val))) * x1 (ix2 q d))
      = (Y (nn X Y b) d : EReal) := by
    intro d
    rw [← h.bank, ← sum_onehot (nn X Y b) fun q => x1 (ix2 q d)]
    refine Finset.sum_congr rfl fun q _ => ?_
    rw [cmpi_fin (n := 16384) (by norm_num), onehot]
  simp only [hg]
  simp only [h.bank, h.norm, bits_two]
  rw [sq_coe]
  exact sqrt_max _ _

theorem w70_apply (b : Fin 8) (k : Fin 16384) : w70 x0 x1 x2 x4 (ix2 b k) = dst (X (row b (best X Y b))) (Y k) := by
  unfold w70
  pointwise [k1_pay10]
  rw [w39_apply h]
  exact sqrt_max _ _

theorem cj_apply (b : Fin 8) (j : ℕ) : cj x0 x1 x2 x4 j (ix2 b 0) = dsup X Y b j := by
  unfold cj
  rw [col_apply, w70_apply h]
  have e : (fun k : Fin 16384 => dn x0 x1 x2 x4 (ix2 b k)) = fun k => dst (Y (nn X Y b)) (Y k) := funext fun k => dn_apply h b k
  rw [e]
  rfl

theorem w3_apply (b : Fin 8) : w3 x0 x1 x2 x4 (ix2 b 0) = score X Y (row b (best X Y b)) := by
  unfold w3
  rw [ld0]
  pointwise [k1_pay4, k1_pay3]
  have hx2 : (fun p : Fin 784 => x2 (ix2 b p)) = fun p => score X Y (row b p) := funext (h.score b)
  rw [hx2, bits_bot, fold_max]
  rfl

theorem w220_apply (b : Fin 8) : w220 x0 x1 x2 x4 (ix2 b 0) = dmax X Y b := by
  rw [w220_eq]
  pointwise
  simp only [cj_apply h]
  exact (fold_max_nine _).symm

/-- The scores the second body stores are the image scores. -/
theorem wpred_apply (b : Fin 8) : wpred x0 x1 x2 x4 (ix2 b 0) = pred X Y b := by
  rw [wpred_eq]
  pointwise [k1_pay40]
  simp only [cj_apply h, w220_apply h, w3_apply h]
  unfold pred
  rw [sum_nine fun j => Ideal.exp (dsup X Y b j - dmax X Y b)]

end Body

end Cert.KernelIdeal.Val
-- ==== Proof.KernelIdeal.Map.lean ====
/- The map the second body computes -/
module

public import proofs.«01_k».proof.Proof.KernelIdeal.Pred
public import Idealize.ShloMosaic.Lib.Pipeline.Value

@[expose] public section

set_option maxRecDepth 16384

noncomputable section

namespace Cert.KernelIdeal.Val
open Cert.KernelIdeal Cert.KernelIdeal.Gen Cert.KernelIdeal.Stage2 Cert.Math
open Idealize.ShloMosaic

/-- Stores that all agree with one array leave that array where they cover. -/
theorem canon_of_agree {Val : EltTy → Type} [∀ e, Nonempty (Val e)] {s : Shape} {e : EltTy} (f : s.Idx → Val e) :
    ∀ (L : List (View.Piece Val s e)), (∀ p ∈ L, ∀ x, p.2 x = f (p.1.emb x)) → ∀ y, (∃ p ∈ L, y ∈ p.1.set) → View.canon L y = f y
  | [], _, y, h => by obtain ⟨_, hm, _⟩ := h; exact absurd hm List.not_mem_nil
  | p :: L, ha, y, h => by
    by_cases hy : y ∈ p.1.set
    · obtain ⟨r, w⟩ := p
      obtain ⟨x, rfl⟩ : ∃ x, r.emb x = y := r.exists_idx_of_mem hy
      rw [View.canon_cons_emb]
      exact ha ⟨r, w⟩ List.mem_cons_self x
    · rw [View.canon_cons_of_not_mem p L hy]
      refine canon_of_agree f L (fun p hp => ha p (List.mem_cons_of_mem _ hp)) y ?_
      obtain ⟨p', hm, hy'⟩ := h
      rcases List.mem_cons.mp hm with rfl | hm
      · exact absurd hy' hy
      · exact ⟨p', hm, hy'⟩

/-- Entry `(i, j)` of image `b`'s map: the image's 28 × 28 scores between the matrix and its transpose. -/
def mapAt (P A : Vec Ideal S224x28 .f32) (b : Fin 8) (i j : Fin 224) : EReal :=
  ∑ x : Fin 28, A (ix2 i x) * ∑ v : Fin 28, P (ix2 ⟨b.val * 28 + x.val, by omega⟩ v) * A (ix2 j v)

variable (P A : Vec Ideal S224x28 .f32) (i j : Fin 224)

theorem piece0 : k1_pay42 A P (ix3 0 i j) = mapAt P A 0 i j := by
  pointwise [k1_pay42, k1_pay41, mapAt]
theorem piece1 : k1_pay44 (k1_pay43 A P) (ix3 0 i j) = mapAt P A 1 i j := by
  pointwise [k1_pay44, k1_pay43, k1_pay41, mapAt]
theorem piece2 : k1_pay45 A (k1_pay41 P) (ix3 0 i j) = mapAt P A 2 i j := by
  pointwise [k1_pay45, k1_pay41, mapAt]
theorem piece3 : k1_pay46 A (k1_pay41 P) (ix3 0 i j) = mapAt P A 3 i j := by
  pointwise [k1_pay46, k1_pay41, mapAt]
theorem piece4 : k1_pay47 A (k1_pay41 P) (ix3 0 i j) = mapAt P A 4 i j := by
  pointwise [k1_pay47, k1_pay41, mapAt]
theorem piece5 : k1_pay48 A (k1_pay41 P) (ix3 0 i j) = mapAt P A 5 i j := by
  pointwise [k1_pay48, k1_pay41, mapAt]
theorem piece6 : k1_pay1 (k1_pay49 A (k1_pay41 P)) (ix3 0 i j) = mapAt P A 6 i j := by
  pointwise [k1_pay1, k1_pay49, k1_pay41, mapAt]
theorem piece7 : k1_pay2 A (k1_pay41 P) (ix3 0 i j) = mapAt P A 7 i j := by
  pointwise [k1_pay2, k1_pay41, mapAt]

/-- The maps as one array. -/
def maps : Vec Ideal S8x224x224 .f32 := fun y => mapAt P A (y 0) (y 1) (y 2)

/-- A slab's payload that is one image's map agrees with the maps. -/
theorem slab (b : Fin 8) (inb : ∀ a, (![b.val, 0, 0] : Fin 3 → ℕ) a + S1x224x224.size a ≤ S8x224x224.size a) (w : Vec Ideal S1x224x224 .f32)
    (h : ∀ i j, w (ix3 0 i j) = mapAt P A b i j) (x : S1x224x224.Idx) :
    w x = maps P A ((Rect.unit (s := S8x224x224) ![b.val, 0, 0] S1x224x224.size inb).emb x) := by
  obtain ⟨u, i, j, rfl⟩ : ∃ (u : Fin 1) (i j : Fin 224), x = ix3 u i j := ⟨x 0, x 1, x 2, eq_ix3 x⟩
  obtain rfl : u = 0 := Subsingleton.elim _ _
  rw [h]
  have e : (Rect.unit (s := S8x224x224) ![b.val, 0, 0] S1x224x224.size inb).emb (ix3 0 i j) = ix3 b i j := by
    funext a
    apply Fin.ext
    match a with
    | ⟨0, _⟩ => show b.val + 1 * 0 = b.val; omega
    | ⟨1, _⟩ => show 0 + 1 * i.val = i.val; omega
    | ⟨2, _⟩ => show 0 + 1 * j.val = j.val; omega
  exact (congrArg (maps P A) e.symm)

variable (x0 : Vec Ideal S6272x384 .bf16) (x1 : Vec Ideal S16384x384 .bf16) (x2 : Vec Ideal S8x784 .f32) (x4 : Vec Ideal S1x16384 .f32)

/-- The maps the second body stores. -/
theorem out1_7_eq : out1_7 x0 x1 x2 P x4 A = maps P A := by
  funext y
  unfold out1_7
  rw [ld5, ld5]
  refine canon_of_agree (maps P A) _ (fun p hp => ?_) y (cover1_7 _ _ _ _ _ _ _ _ y)
  simp only [List.mem_cons, List.not_mem_nil, or_false] at hp
  obtain rfl | rfl | rfl | rfl | rfl | rfl | rfl | rfl := hp
  · exact slab P A 7 inb_S8x224x224_S1x224x224_7_0_0 _ (piece7 P A)
  · exact slab P A 6 inb_S8x224x224_S1x224x224_6_0_0 _ (piece6 P A)
  · exact slab P A 5 inb_S8x224x224_S1x224x224_5_0_0 _ (piece5 P A)
  · exact slab P A 4 inb_S8x224x224_S1x224x224_4_0_0 _ (piece4 P A)
  · exact slab P A 3 inb_S8x224x224_S1x224x224_3_0_0 _ (piece3 P A)
  · exact slab P A 2 inb_S8x224x224_S1x224x224_2_0_0 _ (piece2 P A)
  · exact slab P A 1 inb_S8x224x224_S1x224x224_1_0_0 _ (piece1 P A)
  · exact slab P A 0 inb_S8x224x224_S1x224x224_0_0_0 _ (piece0 P A)

/-- The scores the second body stores. -/
theorem out1_6_eq (x3 x5 : Vec Ideal S224x28 .f32) : out1_6 x0 x1 x2 x3 x4 x5 = wpred x0 x1 x2 x4 := by
  unfold out1_6
  exact View.canon_unit_zero (S := S8x1) (by funext a; fin_cases a <;> rfl) _ _

end Cert.KernelIdeal.Val
-- ==== Proof.KernelIdeal.Ends.lean ====
/- What the kernel's results hold at the end, for real inputs -/
module

public import proofs.«01_k».proof.Proof.KernelIdeal.Whole
public import proofs.«01_k».proof.Proof.KernelIdeal.Stage1Value
public import proofs.«01_k».proof.Proof.KernelIdeal.Map

@[expose] public section

set_option maxRecDepth 16384

noncomputable section

namespace Cert.KernelIdeal.Ends
open Cert.KernelIdeal Cert.KernelIdeal.Gen Cert.KernelIdeal.Val Cert.KernelIdeal.Whole Cert.Math
open Idealize.ShloMosaic Idealize.ShloMosaic.TcCoe

section Blocks
variable (m : Dev nD → Valuation τ sig (Elt Ideal)) (c : Dev nD)

/-- The second pipeline's one point. -/
def t1 : Fin cfg1.N := ⟨0, by decide⟩

/-- Each window of the second pipeline is a whole array. -/
theorem blk0 : Stage2.iblk m c 0 t1 = Stage2.V m c main_v0 := by
  exact Memref.read_access_unit_zero (Elt Ideal) main_v0 (by funext a; fin_cases a <;> rfl) (fun a => by fin_cases a <;> decide) _
theorem blk1 : Stage2.iblk m c 1 t1 = Stage2.V m c main_v1 := by
  exact Memref.read_access_unit_zero (Elt Ideal) main_v1 (by funext a; fin_cases a <;> rfl) (fun a => by fin_cases a <;> decide) _
theorem blk2 : Stage2.iblk m c 2 t1 = Stage2.V m c main_v4 := by
  exact Memref.read_access_unit_zero (Elt Ideal) main_v4 (by funext a; fin_cases a <;> rfl) (fun a => by fin_cases a <;> decide) _
theorem blk3 : Stage2.iblk m c 3 t1 = Stage2.V m c main_v5 := by
  exact Memref.read_access_unit_zero (Elt Ideal) main_v5 (by funext a; fin_cases a <;> rfl) (fun a => by fin_cases a <;> decide) _
theorem blk4 : Stage2.iblk m c 4 t1 = Stage2.V m c main_v7 := by
  exact Memref.read_access_unit_zero (Elt Ideal) main_v7 (by funext a; fin_cases a <;> rfl) (fun a => by fin_cases a <;> decide) _
theorem blk5 : Stage2.iblk m c 5 t1 = Stage2.V m c main_arg3 := by
  exact Memref.read_access_unit_zero (Elt Ideal) main_arg3 (by funext a; fin_cases a <;> rfl) (fun a => by fin_cases a <;> decide) _

theorem out6 : ((Stage2.dat m c).arrAt 6 cfg1.N : Vec Ideal S8x1 .f32) = (Stage2.dat m c).after 6 t1 := by
  have ho : ((cfg1.win 6).blk t1).view.read (Elt Ideal) ((Stage2.dat m c).arrAt 6 cfg1.N) = (Stage2.dat m c).flushed 6 t1 := by
    rw [show cfg1.N = (t1 : Fin cfg1.N).val + 1 from rfl, (Stage2.dat m c).arrAt_succ 6 t1, if_pos (flush1_6 t1)]
    exact View.read_write_univ _ _
  have hr := fun f => Memref.read_access_unit_zero (Elt Ideal) main_v8_0 (off := fun a => win1_6.index t1 a * main_v8_0.ty.shape.size a)
    (by funext a; fin_cases a <;> rfl) (fun a => by fin_cases a <;> decide) f
  exact (hr _).symm.trans ho

theorem out7 : ((Stage2.dat m c).arrAt 7 cfg1.N : Vec Ideal S8x224x224 .f32) = (Stage2.dat m c).after 7 t1 := by
  have ho : ((cfg1.win 7).blk t1).view.read (Elt Ideal) ((Stage2.dat m c).arrAt 7 cfg1.N) = (Stage2.dat m c).flushed 7 t1 := by
    rw [show cfg1.N = (t1 : Fin cfg1.N).val + 1 from rfl, (Stage2.dat m c).arrAt_succ 7 t1, if_pos (flush1_7 t1)]
    exact View.read_write_univ _ _
  have hr := fun f => Memref.read_access_unit_zero (Elt Ideal) main_v8_1 (off := fun a => win1_7.index t1 a * main_v8_1.ty.shape.size a)
    (by funext a; fin_cases a <;> rfl) (fun a => by fin_cases a <;> decide) f
  exact (hr _).symm.trans ho

end Blocks

variable (m : (ℓ : Loc nD τ sig) → Buf (Elt Ideal) ℓ) (c : Dev nD)

theorem u2_ps : U2 m c (Proc.devRef .tc main_v2_0) = (Stage1.dat (U1 m) c).arrAt 2 cfg0.N :=
  Pipeline.afterRegion_arr _ _ launch0.win.arr_inj 2
theorem u2_bn : U2 m c (Proc.devRef .tc main_v2_1) = (Stage1.dat (U1 m) c).arrAt 3 cfg0.N :=
  Pipeline.afterRegion_arr _ _ launch0.win.arr_inj 3

/-- What no operation up to the second pipeline writes. -/
theorem u3_keeps (r : Ref sig .tc) (h : r ∉ [main_v2_0, main_v2_1, main_v3, main_v4, main_v5, main_v6, main_v7]) :
    U3 m c (Proc.devRef .tc r) = U1 m c (Proc.devRef .tc r) := by
  simp only [List.mem_cons, List.not_mem_nil, or_false, not_or] at h
  obtain ⟨h20, h21, h3, h4, h5, h6, h7⟩ := h
  have e3 : U3 m c (Proc.devRef .tc r) = U2 m c (Proc.devRef .tc r) :=
    StableHlo.after_of_writes_sub (W := [main_v3, main_v4, main_v5, main_v6, main_v7]) hostOps1 _ (StableHlo.forall_writes_sub_of_map rfl) (by simp [h3, h4, h5, h6, h7])
  exact e3.trans (Pipeline.afterRegion_keeps _ _ launch0.win.arr_inj (Stage1.A_eq (U1 m) c) r (by
      intro w; fin_cases w <;> intro e <;> first | rfl | exact absurd e.symm (by assumption)))

theorem u3_arg3 : U3 m c (Proc.devRef .tc main_arg3) = m ((c : Thread nD τ).loc main_arg3) :=
  (u3_keeps m c main_arg3 (by decide)).trans
    (StableHlo.after_of_writes_sub (W := [main_v0, main_v1]) hostOps0 _ (StableHlo.forall_writes_sub_of_map rfl) (by decide))

/-- The scores as the second pipeline finds them, image by image and row by row, and the squared norms. -/
theorem u3_v4 (b : Fin 8) (p : Fin 784) : (U3 m c (Proc.devRef .tc main_v4) : Vec Ideal S8x784 .f32) (ix2 b p)
    = (U2 m c (Proc.devRef .tc main_v2_0) : Vec Ideal S6272x1 .f32) (ix2 ⟨b.val * 784 + p.val, by omega⟩ 0) := by
  unfold U3
  after_results
  pointwise
theorem u3_v5 (r : Fin 224) (v : Fin 28) : (U3 m c (Proc.devRef .tc main_v5) : Vec Ideal S224x28 .f32) (ix2 r v)
    = (U2 m c (Proc.devRef .tc main_v2_0) : Vec Ideal S6272x1 .f32) (ix2 ⟨r.val * 28 + v.val, by omega⟩ 0) := by
  unfold U3
  after_results
  pointwise
theorem u3_v7 (k : Fin 16384) : (U3 m c (Proc.devRef .tc main_v7) : Vec Ideal S1x16384 .f32) (ix2 0 k)
    = (U2 m c (Proc.devRef .tc main_v2_1) : Vec Ideal S2x1x16384 .f32) (ix3 0 0 k) := by
  unfold U3
  after_results
  pointwise

variable (X : Fin 6272 → Fin 384 → ℝ) (Y : Fin 16384 → Fin 384 → ℝ)
  (hX : ∀ q d, (m ((c : Thread nD τ).loc main_arg0) : Vec Ideal S6272x384 .f32) (ix2 q d) = (X q d : EReal))
  (hY : ∀ k d, (m ((c : Thread nD τ).loc main_arg1) : Vec Ideal S16384x384 .f32) (ix2 k d) = (Y k d : EReal))

include hX in
theorem emb_real (q : Fin 6272) (d : Fin 384) : (U1 m c (Proc.devRef .tc main_v0) : Vec Ideal S6272x384 .bf16) (ix2 q d) = (X q d : EReal) := by
  unfold U1
  after_results
  exact hX q d
include hY in
theorem bank_real (k : Fin 16384) (d : Fin 384) : (U1 m c (Proc.devRef .tc main_v1) : Vec Ideal S16384x384 .bf16) (ix2 k d) = (Y k d : EReal) := by
  unfold U1
  after_results
  exact hY k d

include hX hY in
theorem ps_real (q : Fin 6272) : (U2 m c (Proc.devRef .tc main_v2_0) : Vec Ideal S6272x1 .f32) (ix2 q 0) = score X Y q := by
  rw [u2_ps]
  exact Stage1.score_value (U1 m) c X Y (emb_real m c X hX) (bank_real m c Y hY) q

include hX hY in
/-- The second pipeline's inputs. -/
theorem inputs : Inputs (U3 m c (Proc.devRef .tc main_v0)) (U3 m c (Proc.devRef .tc main_v1)) (U3 m c (Proc.devRef .tc main_v4))
    (U3 m c (Proc.devRef .tc main_v7)) X Y where
  emb q d := by rw [u3_keeps m c main_v0 (by decide)]; exact emb_real m c X hX q d
  bank k d := by rw [u3_keeps m c main_v1 (by decide)]; exact bank_real m c Y hY k d
  score b p := by rw [u3_v4]; exact ps_real m c X Y hX hY _
  norm k := by
    refine (u3_v7 m c k).trans ?_
    rw [u2_bn]
    exact Stage1.norm_value (U1 m) c Y (bank_real m c Y hY) k

include hX hY in
/-- The first result: the image scores. -/
theorem pred_end (b : Fin 8) : (U5 m c (Proc.devRef .tc main_v9) : Vec Ideal S8 .f32) (ix1 b) = pred X Y b := by
  have e : (U5 m c (Proc.devRef .tc main_v9) : Vec Ideal S8 .f32) (ix1 b) = (U4 m c (Proc.devRef .tc main_v8_0) : Vec Ideal S8x1 .f32) (ix2 b 0) := by
    unfold U5
    after_results
    pointwise
  have e4 : U4 m c (Proc.devRef .tc main_v8_0) = (Stage2.dat (U3 m) c).arrAt 6 cfg1.N := Pipeline.afterRegion_arr _ _ launch1.win.arr_inj 6
  rw [e, e4, out6, Stage2.after1_6, out1_6_eq, blk0, blk1, blk2, blk4]
  exact wpred_apply (inputs m c X Y hX hY) b

include hX hY in
/-- The second result: the maps, from the scores and the matrix argument. -/
theorem map_end (a : Fin 224 → Fin 28 → EReal) (ha : ∀ i u, (m ((c : Thread nD τ).loc main_arg3) : Vec Ideal S224x28 .f32) (ix2 i u) = a i u)
    (b : Fin 8) (i j : Fin 224) : (U5 m c (Proc.devRef .tc main_v10) : Vec Ideal S8x1x224x224 .f32) (ix4 b 0 i j)
    = (∑ x : Fin 28, a i x * ∑ v : Fin 28, score X Y ⟨(b.val * 28 + x.val) * 28 + v.val, by omega⟩ * a j v : EReal) := by
  have e : (U5 m c (Proc.devRef .tc main_v10) : Vec Ideal S8x1x224x224 .f32) (ix4 b 0 i j) = (U4 m c (Proc.devRef .tc main_v8_1) : Vec Ideal S8x224x224 .f32) (ix3 b i j) := by
    unfold U5
    after_results
    pointwise
  have e4 : U4 m c (Proc.devRef .tc main_v8_1) = (Stage2.dat (U3 m) c).arrAt 7 cfg1.N := Pipeline.afterRegion_arr _ _ launch1.win.arr_inj 7
  rw [e, e4, out7, Stage2.after1_7, out1_7_eq, blk3, blk5]
  show mapAt _ _ b i j = _
  unfold mapAt
  have h3 : ∀ i u, (Stage2.V (U3 m) c main_arg3 : Vec Ideal S224x28 .f32) (ix2 i u) = a i u := fun i u =>
    (congrFun (u3_arg3 m c) (ix2 i u)).trans (ha i u)
  have h5 : ∀ (r : Fin 224) (v : Fin 28), (Stage2.V (U3 m) c main_v5 : Vec Ideal S224x28 .f32) (ix2 r v) = score X Y ⟨r.val * 28 + v.val, by omega⟩ :=
    fun r v => (u3_v5 m c r v).trans (ps_real m c X Y hX hY _)
  simp only [h3, h5]

end Cert.KernelIdeal.Ends
-- ==== Proof.Reference.PreFacts.lean ====
/- The side conditions the precondition's operations state -/
module

public import proofs.«01_k».proof.Pre_finite_and_blur
public import Idealize.ShloMosaic.Lib.Decide

@[expose] public section

set_option Elab.async false

namespace Cert.Proof

open Idealize.ShloMosaic Cert.Pre_finite_and_blur

instance preFacts : Cert.Pre_finite_and_blur.Facts where
  bcast_S_S6272x384 := by decide
  reducesTo_S6272x384_S_d0_1 := by decide
  h_S_ := by decide
  bcast_S_S16384x384 := by decide
  reducesTo_S16384x384_S_d0_1 := by decide
  bcast_S_S33 := by decide
  reducesTo_S33_S_d0 := by decide
  bcast_S_S224 := by decide
  bcast_S224_S224x1_0 := by decide
  bcast_S28_S1x28_1 := by decide
  bcast_S224x1_S224x28_0_1 := by decide
  bcast_S1x28_S224x28_0_1 := by decide
  bcast_S_S224x28 := by decide
  slices_S224x28_S1x28_0_0 := by decide
  slices_S224x28_S16x28_1_0 := by decide
  concatenates_S16x28_S224x28_S240x28_d0 := by decide
  slices_S240x28_S1x28_239_0 := by decide
  slices_S240x28_S16x28_223_0 := by decide
  concatenates_S240x28_S16x28_S256x28_d0 := by decide
  bcast_S33_S1x33_1 := by decide
  bcast_S224x1_S224x33_0_1 := by decide
  bcast_S1x33_S224x33_0_1 := by decide
  bcast_S_S224x33 := by decide
  bcast_S224x33_S224x33x1_0_1 := by decide
  reducesTo_S224x28_S_d0_1 := by decide
  gather_S256x28_S224x33x1_S224x33x28_2_0_n_n_0_2_128_wf := by decide
  dot_S224x33x28_S33_S224x28_1_0_02_n_n_n_wf := by decide

end Cert.Proof
-- ==== Proof.Reference.Gathers.lean ====
/- The reference's look-ups: a row or a window read at a word that holds an index in range, and top-k's positions -/
module

public import proofs.«01_k».proof.Proof.Gen.ReferenceIdeal.Run
public import proofs.«01_k».proof.Proof.Math.Spec
public import Idealize.ShloMosaic.Lib.Pointwise

@[expose] public section

noncomputable section

namespace Cert.ReferenceIdeal.Gathers

open Cert.ReferenceIdeal Cert.ReferenceIdeal.Gen Cert.Math
open Idealize.ShloMosaic

/-- The word of a small number, read signed and cut off at the last index, is the number. -/
theorem word_min {k n : ℕ} (hk : k ≤ n) (hn : n < 2 ^ 31) : min (BitVec.ofNat 32 k).toInt.toNat n = k := by
  have h1 : (BitVec.ofNat 32 k).toNat = k := by
    rw [BitVec.toNat_ofNat, Nat.mod_eq_of_lt (by omega)]
  rw [BitVec.toInt_eq_toNat_of_lt (by rw [h1]; omega), h1]
  omega

/-- A small number's word is not negative. -/
theorem word_not_neg {k : ℕ} (hk : k < 2 ^ 31) : IntOp.cmpi CmpIPredicate.slt (BitVec.ofNat 32 k) 0#32 = 0#1 := by
  have h1 : (BitVec.ofNat 32 k).toNat = k := by
    rw [BitVec.toNat_ofNat, Nat.mod_eq_of_lt (by omega)]
  have h2 : (BitVec.ofNat 32 k).toInt = k := by
    rw [BitVec.toInt_eq_toNat_of_lt (by rw [h1]; omega), h1]
  show BitVec.ofBool ((BitVec.ofNat 32 k).slt 0#32) = 0#1
  have : (BitVec.ofNat 32 k).slt 0#32 = false := by
    simp only [BitVec.slt, h2, decide_eq_false_iff_not]
    simp
  rw [this]
  rfl

variable {α : Type}

theorem gather_pair (x : S8x784.Idx → α) (idx : IVec S8x2 32) (b : Fin 8) (r : Fin 8) (p : Fin 784)
    (h0 : idx (ix2 b 0) = BitVec.ofNat 32 r.val) (h1 : idx (ix2 b 1) = BitVec.ofNat 32 p.val) :
    Host.gather gather_S8x784_S8x2_S8_n_01_n_n_01_1_11 x idx (ix1 b) = x (ix2 r p) := by
  unfold Host.gather
  congr 1
  funext a
  refine Fin.ext ?_
  match a with
  | ⟨0, _⟩ =>
    have e : (gather_S8x784_S8x2_S8_n_01_n_n_01_1_11).siIdx (ix1 b) ⟨0, by decide⟩ = ix2 b 0 := by
      funext c; match c with
      | ⟨0, _⟩ => rfl
      | ⟨1, _⟩ => rfl
    show min (idx ((gather_S8x784_S8x2_S8_n_01_n_n_01_1_11).siIdx (ix1 b) ⟨0, by decide⟩)).toInt.toNat 7 + 0 + 0 = r.val
    rw [e, h0, word_min (by omega) (by omega)]
    rfl
  | ⟨1, _⟩ =>
    have e : (gather_S8x784_S8x2_S8_n_01_n_n_01_1_11).siIdx (ix1 b) ⟨1, by decide⟩ = ix2 b 1 := by
      funext c; match c with
      | ⟨0, _⟩ => rfl
      | ⟨1, _⟩ => rfl
    show min (idx ((gather_S8x784_S8x2_S8_n_01_n_n_01_1_11).siIdx (ix1 b) ⟨1, by decide⟩)).toInt.toNat 783 + 0 + 0 = p.val
    rw [e, h1, word_min (by omega) (by omega)]
    rfl

theorem gather_patch (x : S8x784x384.Idx → α) (idx : IVec S8x2 32) (b : Fin 8) (d : Fin 384) (r : Fin 8) (p : Fin 784)
    (h0 : idx (ix2 b 0) = BitVec.ofNat 32 r.val) (h1 : idx (ix2 b 1) = BitVec.ofNat 32 p.val) :
    Host.gather gather_S8x784x384_S8x2_S8x384_1_01_n_n_01_1_11384 x idx (ix2 b d) = x (ix3 r p d) := by
  unfold Host.gather
  congr 1
  funext a
  refine Fin.ext ?_
  match a with
  | ⟨0, _⟩ =>
    have e : (gather_S8x784x384_S8x2_S8x384_1_01_n_n_01_1_11384).siIdx (ix2 b d) ⟨0, by decide⟩ = ix2 b 0 := by
      funext c; match c with
      | ⟨0, _⟩ => rfl
      | ⟨1, _⟩ => rfl
    show min (idx ((gather_S8x784x384_S8x2_S8x384_1_01_n_n_01_1_11384).siIdx (ix2 b d) ⟨0, by decide⟩)).toInt.toNat 7 + 0 + 0 = r.val
    rw [e, h0, word_min (by omega) (by omega)]
    rfl
  | ⟨1, _⟩ =>
    have e : (gather_S8x784x384_S8x2_S8x384_1_01_n_n_01_1_11384).siIdx (ix2 b d) ⟨1, by decide⟩ = ix2 b 1 := by
      funext c; match c with
      | ⟨0, _⟩ => rfl
      | ⟨1, _⟩ => rfl
    show min (idx ((gather_S8x784x384_S8x2_S8x384_1_01_n_n_01_1_11384).siIdx (ix2 b d) ⟨1, by decide⟩)).toInt.toNat 783 + 0 + 0 = p.val
    rw [e, h1, word_min (by omega) (by omega)]
    rfl
  | ⟨2, _⟩ =>
    show 0 + 0 + d.val = d.val
    omega

theorem gather_row (x : S16384x384.Idx → α) (idx : IVec S8x1 32) (b : Fin 8) (d : Fin 384) (k : Fin 16384)
    (h0 : idx (ix2 b 0) = BitVec.ofNat 32 k.val) :
    Host.gather gather_S16384x384_S8x1_S8x384_1_0_n_n_0_1_1384 x idx (ix2 b d) = x (ix2 k d) := by
  unfold Host.gather
  congr 1
  funext a
  refine Fin.ext ?_
  match a with
  | ⟨0, _⟩ =>
    have e : (gather_S16384x384_S8x1_S8x384_1_0_n_n_0_1_1384).siIdx (ix2 b d) ⟨0, by decide⟩ = ix2 b 0 := by
      funext c; match c with
      | ⟨0, _⟩ => rfl
      | ⟨1, _⟩ => rfl
    show min (idx ((gather_S16384x384_S8x1_S8x384_1_0_n_n_0_1_1384).siIdx (ix2 b d) ⟨0, by decide⟩)).toInt.toNat 16383 + 0 + 0 = k.val
    rw [e, h0, word_min (by omega) (by omega)]
    rfl
  | ⟨1, _⟩ =>
    show 0 + 0 + d.val = d.val
    omega

theorem gather_rows (x : S16384x384.Idx → α) (idx : IVec S8x9x1 32) (b : Fin 8) (j : Fin 9) (d : Fin 384) (k : Fin 16384)
    (h0 : idx (ix3 b j 0) = BitVec.ofNat 32 k.val) :
    Host.gather gather_S16384x384_S8x9x1_S8x9x384_2_0_n_n_0_2_1384 x idx (ix3 b j d) = x (ix2 k d) := by
  unfold Host.gather
  congr 1
  funext a
  refine Fin.ext ?_
  match a with
  | ⟨0, _⟩ =>
    have e : (gather_S16384x384_S8x9x1_S8x9x384_2_0_n_n_0_2_1384).siIdx (ix3 b j d) ⟨0, by decide⟩ = ix3 b j 0 := by
      funext c; match c with
      | ⟨0, _⟩ => rfl
      | ⟨1, _⟩ => rfl
      | ⟨2, _⟩ => rfl
    show min (idx ((gather_S16384x384_S8x9x1_S8x9x384_2_0_n_n_0_2_1384).siIdx (ix3 b j d) ⟨0, by decide⟩)).toInt.toNat 16383 + 0 + 0 = k.val
    rw [e, h0, word_min (by omega) (by omega)]
    rfl
  | ⟨1, _⟩ =>
    show 0 + 0 + d.val = d.val
    omega

theorem gather_window (x : S8x256x224.Idx → α) (idx : IVec S224x33x1 32) (b : Fin 8) (i : Fin 224) (t : Fin 33) (v : Fin 224) (k : Fin 256)
    (h0 : idx (ix3 i t 0) = BitVec.ofNat 32 k.val) :
    Host.gather gather_S8x256x224_S224x33x1_S8x224x33x224_03_1_n_n_1_2_81224 x idx (ix4 b i t v) = x (ix3 b k v) := by
  unfold Host.gather
  congr 1
  funext a
  refine Fin.ext ?_
  match a with
  | ⟨0, _⟩ =>
    show 0 + 0 + b.val = b.val
    omega
  | ⟨1, _⟩ =>
    have e : (gather_S8x256x224_S224x33x1_S8x224x33x224_03_1_n_n_1_2_81224).siIdx (ix4 b i t v) ⟨0, by decide⟩ = ix3 i t 0 := by
      funext c; match c with
      | ⟨0, _⟩ => rfl
      | ⟨1, _⟩ => rfl
      | ⟨2, _⟩ => rfl
    show min (idx ((gather_S8x256x224_S224x33x1_S8x224x33x224_03_1_n_n_1_2_81224).siIdx (ix4 b i t v) ⟨0, by decide⟩)).toInt.toNat 255 + 0 + 0 = k.val
    rw [e, h0, word_min (by omega) (by omega)]
    rfl
  | ⟨2, _⟩ =>
    show 0 + 0 + v.val = v.val
    omega

/-- Top-k's positions of a family of negated numbers below `⊤`: the successive least entries of the numbers. -/
theorem topK_index {n m k : ℕ} [NeZero m] (x : Vec Ideal ⟨2, ![n, m]⟩ .f32) (h : Shape.Slices ⟨2, ![n, m]⟩ (fun _ => 0) ⟨2, ![n, k]⟩)
    (hkm : k ≤ m) (b : Fin n) (f : Fin m → EReal) (hx : ∀ c, x (ix2 b c) = -f c) (hf : ∀ c, f c < ⊤) (j : Fin k) :
    (Host.topK (α := Ideal .f32) ⟨2, ![n, k]⟩ 1 (FloatOps.cmpfTotal (F := Ideal) (φ := .f32) .gt) x h).2 (ix2 b j)
      = BitVec.ofNat 32 (pick f j.val).val := by
  have e := sortedFrom_eq_pick f hf (fun c c' => (FloatOps.cmpfTotal (F := Ideal) (φ := .f32) .gt (x (ix2 b c)) (x (ix2 b c'))) == 1#1) (fun c c' => by
    rw [hx, hx, beq_iff_eq]
    show BitVec.ofBool (decide (-f c > -f c')) = 1#1 ↔ _
    by_cases hc : f c < f c'
    · simp [gt_iff_lt, EReal.neg_lt_neg_iff, hc]
    · simp [gt_iff_lt, EReal.neg_lt_neg_iff, hc]) ⟨j.val, by omega⟩
  rw [← e]
  have along : ∀ c : Fin m, (ix2 (n0 := n) (n1 := m) b ⟨j.val, by omega⟩).along (1 : Fin 2) c = ix2 b c := by
    intro c
    funext a
    match a with
    | ⟨0, _⟩ => rfl
    | ⟨1, _⟩ => rfl
  have hs : ∀ y : IVec ⟨2, ![n, m]⟩ 32, extractStridedSlice ⟨2, ![n, k]⟩ (fun _ => 0) y h (ix2 b j) = y (ix2 b ⟨j.val, by omega⟩) := by
    intro y
    refine congrArg y (funext fun a => Fin.ext ?_)
    match a with
    | ⟨0, _⟩ => exact Nat.zero_add _
    | ⟨1, _⟩ => exact Nat.zero_add _
  unfold Host.topK
  dsimp only
  rw [hs]
  have hj : j.val < m := by omega
  have cmps : (fun c c' : Fin m => (FloatOps.cmpfTotal (F := Ideal) (φ := .f32) .gt (x ((ix2 (n0 := n) (n1 := m) b ⟨j.val, hj⟩).along (1 : Fin 2) c))
      (x ((ix2 (n0 := n) (n1 := m) b ⟨j.val, hj⟩).along (1 : Fin 2) c'))) == 1#1)
      = fun c c' => (FloatOps.cmpfTotal (F := Ideal) (φ := .f32) .gt (x (ix2 b c)) (x (ix2 b c'))) == 1#1 := by
    funext c c'
    rw [along, along]
  exact congrArg (fun q : Fin m => BitVec.ofNat 32 q.val)
    ((congrFun (along _) (1 : Fin 2)).trans (congrArg (fun F : Fin m → Fin m → Bool => sortedFrom F ⟨j.val, hj⟩) cmps))

end Cert.ReferenceIdeal.Gathers
-- ==== Proof.Reference.Scores.lean ====
/- The reference's values before the image score: distances, patch scores, the best patch, its nearest bank row -/
module

public import proofs.«01_k».proof.Proof.Reference.Gathers
public import Idealize.ShloMosaic.Lib.Tactic.CleanTypes

@[expose] public section

noncomputable section

namespace Cert.ReferenceIdeal.Scores

open Cert.ReferenceIdeal Cert.ReferenceIdeal.Gen Cert.ReferenceIdeal.Value Cert.ReferenceIdeal.Gathers Cert.Math
open Idealize.ShloMosaic

/-- The distance as the reference writes it. -/
theorem dist_form (p q : Fin 384 → ℝ) (a b : Fin 384 → EReal) (ha : ∀ d, a d = p d) (hb : ∀ d, b d = q d) :
    Ideal.sqrt (max (id (constant (F := Ideal) S_ .f32 0x00000000#32) ix0)
      ((∑ d, a d * a d) - Ideal.ofBits FTy.f32 0x40000000#32 * (∑ d, a d * b d) + ∑ d, b d * b d)) = dst p q := by
  simp only [ha, hb]
  rw [bits_two, sq_coe, max_comm]
  have h0 : (id (constant (F := Ideal) S_ .f32 0x00000000#32) ix0 : EReal) = 0 := by
    show Ideal.ofBits FTy.f32 0x00000000#32 = 0
    simp [Ideal.ofBits, Ideal.ieee]
  rw [h0, sqrt_max]

/-- A wrapped index in range is itself. -/
theorem wrap {k : ℕ} (hk : k < 2 ^ 31) (w a : BitVec 32) (hw : w = BitVec.ofNat 32 k) :
    Scalar.select (IntOp.cmpi CmpIPredicate.slt w 0#32) a w = BitVec.ofNat 32 k := by
  subst hw
  rw [word_not_neg hk]
  rfl

/-- A fold over the entries of one row. -/
theorem fold_row {n m : ℕ} (op : EReal → EReal → EReal) [Std.Commutative op] [Std.Associative op]
    (h' : Shape.ReducesTo ⟨2, ![n, m]⟩ [1] ⟨1, ![n]⟩) (h : Shape.Reduces ⟨2, ![n, m]⟩ [1] ⟨1, ![n]⟩)
    (init : EReal) (x : Vec Ideal ⟨2, ![n, m]⟩ .f32) (b : Fin n) (g : Fin m → EReal) (hx : ∀ k, x (ix2 b k) = g k)
    [DecidablePred fun i => h'.drop i = ix1 b] :
    Finset.fold op init x {i | h'.drop i = ix1 b} = Finset.univ.fold op init g := by
  have e := h.fold_filter_drop_single op init x (ix1 b)
  rw [← Shape.ReducesTo.drop_eq_drop h' h] at e
  have hg : x ∘ h.lift (ix1 b) = g := by
    funext k
    refine (congrArg x ?_).trans (hx k)
    funext a
    match a with
    | ⟨0, _⟩ => rfl
    | ⟨1, _⟩ => rfl
  rw [hg] at e
  refine Eq.trans ?_ e
  congr

theorem soft (a M a' M' : EReal) (ha : a = a') (hM : M = M') :
    Ideal.exp (a - max (Ideal.ofBits FTy.f32 0xFF800000#32) M) = Ideal.exp (a' - M') := by
  rw [ha, hM, bits_bot, max_eq_right bot_le]

/-- The weighted score from its parts. -/
theorem weigh (one e0 s v e0' s' v' : EReal) (h1 : one = 1) (he : e0 = e0') (hs : s = s') (hv : v = v') :
    (one - Ideal.div e0 s) * v = (1 - Ideal.div e0' s') * v' := by
  rw [h1, he, hs, hv]

variable (V : Valuation τ sig (Elt Ideal)) (X : Fin 6272 → Fin 384 → ℝ) (Y : Fin 16384 → Fin 384 → ℝ)
variable (hX : ∀ q d, (V (Proc.devRef .tc main_arg0) : Vec Ideal S6272x384 .f32) (ix2 q d) = (X q d : EReal))
variable (hY : ∀ k d, (V (Proc.devRef .tc main_arg1) : Vec Ideal S16384x384 .f32) (ix2 k d) = (Y k d : EReal))

include hX hY in
theorem v16 (q : Fin 6272) (k : Fin 16384) : (res_main_v16 V : Vec Ideal S6272x16384 .f32) (ix2 q k) = dst (X q) (Y k) := by
  pointwise [res_main_v16]
  exact dist_form (X q) (Y k) _ _ (hX q) (hY k)

include hX hY in
theorem v19 (b : Fin 8) (p : Fin 784) : (res_main_v19 V : Vec Ideal S8x784 .f32) (ix2 b p) = score X Y (row b p) := by
  pointwise [res_main_v19]
  refine (fold_row min _ (by decide) _ (res_main_v16 V) (row b p) (fun k => dst (X (row b p)) (Y k)) (v16 V X Y hX hY (row b p))).trans ?_
  rw [bits_top, fold_min]
  rfl

include hX hY in
theorem v22 (b : Fin 8) : (res_main_v22 V : IVec S8 32) (ix1 b) = BitVec.ofNat 32 (best X Y b).val := by
  pointwise [res_main_v22]
  refine (topK_index (n := 8) (m := 784) (k := 1) (res_main_v19 V) _ (by decide) b (fun p => -score X Y (row b p)) (fun p => ?_) (fun p => ?_) 0).trans ?_
  · rw [v19 V X Y hX hY, neg_neg]
  · show -((Real.sqrt _ : ℝ) : EReal) < ⊤
    rw [← EReal.coe_neg]
    exact EReal.coe_lt_top _
  · rfl

/-- The nearest bank row of every patch, from top-k. -/
def nears (V : Valuation τ sig (Elt Ideal)) : IVec S8x784 32 :=
  shapeCast _ ((Host.topK (α := Ideal .f32) S6272x1 1 (FloatOps.cmpfTotal (F := Ideal) (φ := .f32) .gt) (res_main_v18 V) sliceFits_S6272x16384_S6272x1).2) shapeCasts_S6272x1_S8x784

include hX hY in
theorem nears_apply (b : Fin 8) (p : Fin 784) : nears V (ix2 b p) = BitVec.ofNat 32 (near Y (X (row b p))).val := by
  pointwise [nears]
  refine (topK_index (n := 6272) (m := 16384) (k := 1) (res_main_v18 V) _ (by decide) (row b p) (fun k => dst (X (row b p)) (Y k)) (fun k => ?_) (fun k => dst_lt_top _ _) 0).trans ?_
  · exact congrArg (fun x : EReal => -x) (v16 V X Y hX hY (row b p) k)
  · rfl

/-- The index pairs of the look-ups at the best patches. -/
def pairs (V : Valuation τ sig (Elt Ideal)) : IVec S8x2 32 :=
  concatenate S8x2 1 [⟨S8x1, (broadcastInDim S8x1 ![0] bcast_S8_S8x1_0 (select (cmpi .slt (res_main_v21 V) (broadcastInDim S8 ![] bcast_S_S8 (constantI S_ 32 0#32))) (addi (res_main_v21 V) (broadcastInDim S8 ![] bcast_S_S8 (constantI S_ 32 8#32))) (res_main_v21 V)))⟩, ⟨S8x1, (broadcastInDim S8x1 ![0] bcast_S8_S8x1_0 (select (cmpi .slt (res_main_v22 V) (broadcastInDim S8 ![] bcast_S_S8 (constantI S_ 32 0#32))) (addi (res_main_v22 V) (broadcastInDim S8 ![] bcast_S_S8 (constantI S_ 32 784#32))) (res_main_v22 V)))⟩] concatenates_S8x1_S8x1_S8x2_d1

theorem pairs_0 (b : Fin 8) : pairs V (ix2 b 0) = BitVec.ofNat 32 b.val := by
  pointwise [pairs, res_main_v21]
  exact wrap (by omega) _ _ rfl

include hX hY in
theorem pairs_1 (b : Fin 8) : pairs V (ix2 b 1) = BitVec.ofNat 32 (best X Y b).val := by
  pointwise [pairs]
  exact wrap (by omega) _ _ (v22 V X Y hX hY b)

include hX hY in
theorem v65 (b : Fin 8) : (res_main_v65 V : IVec S8 32) (ix1 b) = BitVec.ofNat 32 (nn X Y b).val :=
  (gather_pair (nears V) (pairs V) b b (best X Y b) (pairs_0 V b) (pairs_1 V X Y hX hY b)).trans (nears_apply V X Y hX hY b _)

include hX hY in
theorem v72 (b : Fin 8) (d : Fin 384) : (res_main_v72 V : Vec Ideal S8x384 .f32) (ix2 b d) = (Y (nn X Y b) d : EReal) := by
  refine (gather_row (V (Proc.devRef .tc main_arg1) : Vec Ideal S16384x384 .f32) _ b d (nn X Y b) ?_).trans (hY _ d)
  pointwise
  exact wrap (by omega) _ _ (v65 V X Y hX hY b)

include hX hY in
theorem v90 (b : Fin 8) (k : Fin 16384) : (res_main_v90 V : Vec Ideal S8x16384 .f32) (ix2 b k) = -dst (Y (nn X Y b)) (Y k) := by
  pointwise [res_main_v90]
  exact congrArg (fun x : EReal => -x) (dist_form (Y (nn X Y b)) (Y k) _ _ (v72 V X Y hX hY b) (hY k))

include hX hY in
theorem v24 (b : Fin 8) (j : Fin 9) : (res_main_indices_24 V : IVec S8x9 32) (ix2 b j) = BitVec.ofNat 32 (sup X Y b j.val).val :=
  topK_index (n := 8) (m := 16384) (k := 9) (res_main_v90 V) _ (by decide) b (fun k => dst (Y (nn X Y b)) (Y k)) (v90 V X Y hX hY b) (fun k => dst_lt_top _ _) j

include hX hY in
theorem v97 (b : Fin 8) (j : Fin 9) (d : Fin 384) : (res_main_v97 V : Vec Ideal S8x9x384 .f32) (ix3 b j d) = (Y (sup X Y b j.val) d : EReal) := by
  refine (gather_rows (V (Proc.devRef .tc main_arg1) : Vec Ideal S16384x384 .f32) _ b j d (sup X Y b j.val) ?_).trans (hY _ d)
  pointwise
  exact wrap (by omega) _ _ (v24 V X Y hX hY b j)

include hX hY in
theorem v98 (b : Fin 8) (d : Fin 384) : (res_main_v98 V : Vec Ideal S8x1x384 .f32) (ix3 b 0 d) = (X (row b (best X Y b)) d : EReal) := by
  have e : (res_main_v98 V : Vec Ideal S8x1x384 .f32) (ix3 b 0 d) = Host.gather gather_S8x784x384_S8x2_S8x384_1_01_n_n_01_1_11384 (shapeCast S8x784x384 (V (Proc.devRef .tc main_arg0) : Vec Ideal S6272x384 .f32) shapeCasts_S6272x384_S8x784x384) (pairs V) (ix2 b d) := by
    pointwise [res_main_v98]
    rfl
  rw [e, gather_patch _ (pairs V) b d b (best X Y b) (pairs_0 V b) (pairs_1 V X Y hX hY b)]
  pointwise
  exact hX (row b (best X Y b)) d

include hX hY in
theorem v115 (b : Fin 8) (j : Fin 9) : (res_main_v115 V : Vec Ideal S8x9 .f32) (ix2 b j) = dsup X Y b j.val := by
  pointwise [res_main_v115]
  exact dist_form (X (row b (best X Y b))) (Y (sup X Y b j.val)) _ _ (v98 V X Y hX hY b) (v97 V X Y hX hY b j)

include hX hY in
theorem v122 (b : Fin 8) (j : Fin 9) : (res_main_v122 V : Vec Ideal S8x9 .f32) (ix2 b j) = Ideal.exp (dsup X Y b j.val - dmax X Y b) := by
  pointwise [res_main_v122]
  have hf := fold_row max reducesTo_S8x9_S8_d1 (by decide) (Ideal.ofBits FTy.f32 0xFF800000#32) (res_main_v115 V) b
    (fun j => dsup X Y b j.val) (v115 V X Y hX hY b)
  rw [bits_bot] at hf
  refine soft _ _ _ _ (v115 V X Y hX hY b j) ?_
  rw [bits_bot]
  exact hf

/-- The reference's first result as it is composed of the named values. -/
def out131 (V : Valuation τ sig (Elt Ideal)) : Vec Ideal S8 .f32 :=
  mulf (φ := .f32) (shapeCast S8 (extractStridedSlice S8x1 ![0, 0] (subf (φ := .f32) (broadcastInDim S8x9 ![] bcast_S_S8x9 (constant S_ .f32 0x3F800000#32)) (Host.divf (φ := .f32) (res_main_v122 V) (broadcastInDim S8x9 ![0, 1] bcast_S8x1_S8x9_0_1 (broadcastInDim S8x1 ![0] bcast_S8_S8x1_0 (Host.reduceAdd (φ := .f32) (res_main_v122 V) (constant S_ .f32 0x00000000#32) reducesTo_S8x9_S8_d1 h_S_))))) slices_S8x9_S8x1_0_0) shapeCasts_S8x1_S8)
    (Host.gather gather_S8x784_S8x2_S8_n_01_n_n_01_1_11 (res_main_v19 V) (pairs V))

include hX hY in
/-- The reference's first result: the image scores. -/
theorem out131_apply (b : Fin 8) : out131 V (ix1 b) = pred X Y b := by
  pointwise [out131]
  refine weigh _ _ _ _ _ _ _ rfl (v122 V X Y hX hY b 0) (Finset.sum_congr rfl fun j _ => v122 V X Y hX hY b j)
    ((gather_pair (res_main_v19 V) (pairs V) b b (best X Y b) (pairs_0 V b) (pairs_1 V X Y hX hY b)).trans (v19 V X Y hX hY b _))

end Cert.ReferenceIdeal.Scores
-- ==== Proof.Math.Blur.lean ====
/- The smoothing of the anomaly map: a reflected window sum, and that two smoothings of an interpolated map are one product
   with the smoothed interpolation matrix on either side -/
module

public import proofs.«01_k».proof.Proof.Math.Spec

@[expose] public section

noncomputable section

namespace Cert.Math

open Idealize.ShloMosaic

/-- The row that stands at place `p` of 224 rows padded by 16 on either side, reflected about the first and the last row. -/
def refl (p : Fin 256) : Fin 224 :=
  ⟨if p.val < 16 then 16 - p.val else if p.val < 240 then p.val - 16 else 462 - p.val, by have := p.isLt; split_ifs <;> omega⟩

/-- Place `t` of the window that ends up at row `i`. -/
def win (i : Fin 224) (t : Fin 33) : Fin 224 := refl ⟨i.val + t.val, by omega⟩

section Real
variable (s : Fin 28 → Fin 28 → ℝ) (W : Fin 224 → Fin 28 → ℝ) (w : Fin 33 → ℝ)

/-- A row of the smoothed interpolation matrix. -/
def blurred (i : Fin 224) (u : Fin 28) : ℝ := ∑ t, W (win i t) u * w t

/-- The interpolated map. -/
def interp (i j : Fin 224) : ℝ := ∑ v, (∑ x, s x v * W i x) * W j v

theorem blur_first (i j : Fin 224) : ∑ t, interp s W (win i t) j * w t = ∑ v, (∑ x, s x v * blurred W w i x) * W j v := by
  unfold interp blurred
  simp only [Finset.sum_mul, Finset.mul_sum]
  rw [Finset.sum_comm]
  refine Finset.sum_congr rfl fun v _ => ?_
  rw [Finset.sum_comm]
  exact Finset.sum_congr rfl fun x _ => Finset.sum_congr rfl fun t _ => by ring

theorem blur_second (g : Fin 28 → ℝ) (j : Fin 224) : ∑ t, (∑ v, g v * W (win j t) v) * w t = ∑ v, g v * blurred W w j v := by
  unfold blurred
  simp only [Finset.sum_mul, Finset.mul_sum]
  rw [Finset.sum_comm]
  exact Finset.sum_congr rfl fun v _ => Finset.sum_congr rfl fun t _ => by ring

/-- Both axes smoothed. -/
theorem blur_both (i j : Fin 224) : ∑ t, (∑ t', interp s W (win i t') (win j t) * w t') * w t
    = ∑ x, blurred W w i x * ∑ v, s x v * blurred W w j v := by
  simp only [blur_first]
  rw [blur_second W w (fun v => ∑ x, s x v * blurred W w i x) j]
  simp only [Finset.sum_mul, Finset.mul_sum]
  rw [Finset.sum_comm]
  exact Finset.sum_congr rfl fun x _ => Finset.sum_congr rfl fun v _ => by ring

end Real

/-! ### Numbers that are real -/

/-- The extended real is a real number. -/
def IsReal (x : EReal) : Prop := ∃ r : ℝ, x = r

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases max_choice x y with h | h <;> rw [h] <;> assumption
theorem IsReal.min {x y : EReal} (hx : IsReal x) (hy : IsReal y) : IsReal (min x y) := by
  rcases min_choice x y with h | h <;> rw [h] <;> assumption

/-- A number below `⊤` in absolute value is real. -/
theorem isReal_of_abs {x : EReal} (h : max x (-x) < ⊤) : IsReal x := by
  induction x with
  | bot => simp at h
  | top => simp at h
  | coe r => exact ⟨r, rfl⟩

/-- Both axes smoothed, over the extended reals. -/
theorem blur_both_coe (s : Fin 28 → Fin 28 → ℝ) (W : Fin 224 → Fin 28 → ℝ) (w : Fin 33 → ℝ) (i j : Fin 224) :
    ∑ t, (∑ t', (∑ v, (∑ x, (s x v : EReal) * (W (win i t') x : EReal)) * (W (win j t) v : EReal)) * (w t' : EReal)) * (w t : EReal)
      = ∑ x, ((blurred W w i x : ℝ) : EReal) * ∑ v, (s x v : EReal) * ((blurred W w j v : ℝ) : EReal) := by
  simp only [← EReal.coe_mul, coe_sum]
  exact congrArg _ (blur_both s W w i j)

theorem blurred_coe (W : Fin 224 → Fin 28 → ℝ) (w : Fin 33 → ℝ) (i : Fin 224) (u : Fin 28) :
    ∑ t, (W (win i t) u : EReal) * (w t : EReal) = ((blurred W w i u : ℝ) : EReal) := by
  simp only [← EReal.coe_mul, coe_sum]
  rfl

end Cert.Math
-- ==== Proof.Reference.Maps.lean ====
/- The reference's anomaly map: interpolated, padded by reflection and smoothed along both axes -/
module

public import proofs.«01_k».proof.Proof.Reference.Scores
public import proofs.«01_k».proof.Proof.Math.Blur

@[expose] public section

noncomputable section

namespace Cert.ReferenceIdeal.Maps

open Cert.ReferenceIdeal Cert.ReferenceIdeal.Gen Cert.ReferenceIdeal.Value Cert.ReferenceIdeal.Gathers Cert.ReferenceIdeal.Scores Cert.Math
open Idealize.ShloMosaic

/-- The padding in front. -/
def pad1 (x : Vec Ideal S8x224x224 .f32) : Vec Ideal S8x240x224 .f32 :=
  concatenate S8x240x224 1 [⟨S8x16x224, (Host.reverse [1] (extractStridedSlice S8x16x224 ![0, 1, 0] x slices_S8x224x224_S8x16x224_0_1_0))⟩, ⟨S8x224x224, x⟩] concatenates_S8x16x224_S8x224x224_S8x240x224_d1

/-- The padding on both sides. -/
def pad2 (x : Vec Ideal S8x224x224 .f32) : Vec Ideal S8x256x224 .f32 :=
  concatenate S8x256x224 1 [⟨S8x240x224, pad1 x⟩, ⟨S8x16x224, (Host.reverse [1] (extractStridedSlice S8x16x224 ![0, 223, 0] (pad1 x) slices_S8x240x224_S8x16x224_0_223_0))⟩] concatenates_S8x240x224_S8x16x224_S8x256x224_d1

/-- The first row of every window. -/
def starts : IVec S224x33 32 :=
  addi (broadcastInDim S224x33 ![0, 1] bcast_S224x1_S224x33_0_1 (broadcastInDim S224x1 ![0] bcast_S224_S224x1_0 (iotaInDim S224 32 0))) (broadcastInDim S224x33 ![0, 1] bcast_S1x33_S224x33_0_1 (broadcastInDim S1x33 ![1] bcast_S33_S1x33_1 (iotaInDim S33 32 0)))

/-- The rows of every window, wrapped. -/
def rows : IVec S224x33x1 32 :=
  broadcastInDim S224x33x1 ![0, 1] bcast_S224x33_S224x33x1_0_1 (select (cmpi .slt starts (broadcastInDim S224x33 ![] bcast_S_S224x33 (constantI S_ 32 0#32))) (addi starts (broadcastInDim S224x33 ![] bcast_S_S224x33 (constantI S_ 32 256#32))) starts)

/-- One smoothing: padded, windowed, weighted, and turned. -/
def smooth (x : Vec Ideal S8x224x224 .f32) (w : FVec Ideal S33 .f32) : FVec Ideal S8x224x224 .f32 :=
  transpose S8x224x224 [0, 2, 1] (Host.dotGeneral (φ₁ := .f32) (φ₂ := .f32) dot_S8x224x33x224_S33_S8x224x224_2_0_013_n_n_n none (Host.gather gather_S8x256x224_S224x33x1_S8x224x33x224_03_1_n_n_1_2_81224 (pad2 x) rows) w) transposes_S8x224x224_S8x224x224_0_2_1

/-- The reference's second result as it is composed. -/
def out189 (V : Valuation τ sig (Elt Ideal)) : Vec Ideal S8x1x224x224 .f32 :=
  shapeCast S8x1x224x224 (smooth (smooth (res_main_v154 V) (V (Proc.devRef .tc main_arg2))) (V (Proc.devRef .tc main_arg2))) shapeCasts_S8x224x224_S8x1x224x224

theorem pad1_apply (x : Vec Ideal S8x224x224 .f32) (b : Fin 8) (p : Fin 240) (v : Fin 224) : pad1 x (ix3 b p v) = x (ix3 b (refl ⟨p.val, by omega⟩) v) := by
  pointwise [pad1]
  have hp := p.isLt
  split
  · rename_i h
    refine congrArg (fun r => x (ix3 b r v)) (Fin.ext ?_)
    show 1 + (16 - (p.val + 1)) = if p.val < 16 then 16 - p.val else _
    rw [if_pos h]
    omega
  · rename_i h
    refine congrArg (fun r => x (ix3 b r v)) (Fin.ext ?_)
    simp [Cert.Math.refl]
    omega

theorem pad2_apply (x : Vec Ideal S8x224x224 .f32) (b : Fin 8) (p : Fin 256) (v : Fin 224) : pad2 x (ix3 b p v) = x (ix3 b (refl p) v) := by
  pointwise [pad2]
  have hp := p.isLt
  split
  · rename_i h
    exact pad1_apply x b _ v
  · rename_i h
    have hq : 223 + (16 - (p.val - 240 + 1)) < 240 := by omega
    refine Eq.trans (congrArg (pad1 x) (show _ = ix3 b (⟨223 + (16 - (p.val - 240 + 1)), hq⟩ : Fin 240) v from ?_)) ((pad1_apply x b _ v).trans ?_)
    · funext a
      match a with
      | ⟨0, _⟩ => rfl
      | ⟨1, _⟩ => rfl
      | ⟨2, _⟩ => rfl
    refine congrArg (fun r => x (ix3 b r v)) (Fin.ext ?_)
    show (if 223 + (16 - (p.val - 240 + 1)) < 16 then 16 - (223 + (16 - (p.val - 240 + 1)))
      else if 223 + (16 - (p.val - 240 + 1)) < 240 then 223 + (16 - (p.val - 240 + 1)) - 16 else 462 - (223 + (16 - (p.val - 240 + 1))))
      = if p.val < 16 then 16 - p.val else if p.val < 240 then p.val - 16 else 462 - p.val
    rw [if_neg (show ¬ 223 + (16 - (p.val - 240 + 1)) < 16 by omega), if_pos hq, if_neg (show ¬ p.val < 16 by omega), if_neg h]
    omega

theorem rows_apply (i : Fin 224) (t : Fin 33) : rows (ix3 i t 0) = BitVec.ofNat 32 (i.val + t.val) := by
  pointwise [rows, starts]
  refine wrap (by omega) _ _ ?_
  show BitVec.ofNat 32 i.val + BitVec.ofNat 32 t.val = _
  rw [BitVec.ofNat_add]

theorem smooth_apply (x : Vec Ideal S8x224x224 .f32) (w : FVec Ideal S33 .f32) (b : Fin 8) (i j : Fin 224) :
    smooth x w (ix3 b i j) = (∑ t : Fin 33, x (ix3 b (win j t) i) * w (ix1 t) : EReal) := by
  pointwise [smooth]
  refine Finset.sum_congr rfl fun t _ => congrArg (fun z : EReal => z * w (ix1 t)) ?_
  exact (gather_window (pad2 x) rows b j t i ⟨j.val + t.val, by omega⟩ (rows_apply j t)).trans (pad2_apply x b _ i)

theorem out189_apply' (V : Valuation τ sig (Elt Ideal)) (b : Fin 8) (i j : Fin 224) : out189 V (ix4 b 0 i j)
   = smooth (smooth (res_main_v154 V) (V (Proc.devRef .tc main_arg2))) (V (Proc.devRef .tc main_arg2)) (ix3 b i j) := by
  pointwise [out189]

theorem interp_form (f : Fin 28 → Fin 28 → EReal) (g : Fin 224 → Fin 28 → EReal) (s : Fin 28 → Fin 28 → ℝ) (W : Fin 224 → Fin 28 → ℝ)
    (hf : ∀ x v, f x v = (s x v : EReal)) (hg : ∀ i u, g i u = (W i u : EReal)) (i j : Fin 224) :
    (∑ v, (∑ x, f x v * g i x) * g j v) = ∑ v, (∑ x, (s x v : EReal) * (W i x : EReal)) * (W j v : EReal) := by
  simp only [hf, hg]

theorem v154 (V : Valuation τ sig (Elt Ideal)) (S : Fin 8 → Fin 28 → Fin 28 → ℝ) (W : Fin 224 → Fin 28 → ℝ)
    (hS : ∀ (b : Fin 8) (x v : Fin 28), (res_main_v19 V : Vec Ideal S8x784 .f32) (ix2 b ⟨x.val * 28 + v.val, by omega⟩) = (S b x v : EReal))
    (hW : ∀ i u, (res_main_v150 V : Vec Ideal S224x28 .f32) (ix2 i u) = (W i u : EReal)) (b : Fin 8) (i j : Fin 224) :
    (res_main_v154 V : Vec Ideal S8x224x224 .f32) (ix3 b i j) = (∑ v, (∑ x, (S b x v : EReal) * (W i x : EReal)) * (W j v : EReal) : EReal) := by
  pointwise [res_main_v154]
  exact interp_form _ _ (S b) W (hS b) hW i j

theorem sitofp_real (w : BitVec 32) : IsReal (FloatOps.sitofp (F := Ideal) FTy.f32 w) := ⟨_, rfl⟩

theorem bits_27 : IsReal (Ideal.ofBits FTy.f32 0x41D80000#32) := by
  simp [Ideal.ofBits, Ideal.ieee]
  exact IsReal.mul ⟨_, rfl⟩ ⟨_, rfl⟩

theorem bits_half : IsReal (Ideal.ofBits FTy.f32 0x3F000000#32) := by
  simp [Ideal.ofBits, Ideal.ieee]
  exact IsReal.mul ⟨_, rfl⟩ ⟨_, rfl⟩

theorem bits_eighth : IsReal (Ideal.ofBits FTy.f32 0x3E000000#32) := by
  simp [Ideal.ofBits, Ideal.ieee]
  exact IsReal.mul ⟨_, rfl⟩ ⟨_, rfl⟩

theorem bits_zero : IsReal (Ideal.ofBits FTy.f32 0x00000000#32) := ⟨0, by simp [Ideal.ofBits, Ideal.ieee]⟩

/-- A hat weight is a real number. -/
theorem hat_form (p q : EReal) (hp : IsReal p) (hq : IsReal q) :
    IsReal (max 0 (1 - FloatOps.absf (F := Ideal) (φ := .f32) (min (id (constant (F := Ideal) S_ FTy.f32 0x41D80000#32) ix0)
      (max (id (constant (F := Ideal) S_ FTy.f32 0x00000000#32) ix0)
        ((p + Ideal.ofBits FTy.f32 0x3F000000#32) * Ideal.ofBits FTy.f32 0x3E000000#32 - Ideal.ofBits FTy.f32 0x3F000000#32)) - q))) := by
  have h0 : IsReal 0 := ⟨0, rfl⟩
  have h1 : IsReal 1 := ⟨1, rfl⟩
  have hx := (IsReal.min bits_27 (IsReal.max bits_zero (((hp.add bits_half).mul bits_eighth).sub bits_half))).sub hq
  exact h0.max (h1.sub (hx.max hx.neg))

theorem hat_real (V : Valuation τ sig (Elt Ideal)) (i : Fin 224) (u : Fin 28) : IsReal ((res_main_v150 V : Vec Ideal S224x28 .f32) (ix2 i u)) := by
  pointwise [res_main_v150]
  exact hat_form _ _ (sitofp_real _) (sitofp_real _)

/-- The reference's second result: the smoothed map as one product with the smoothed interpolation matrix on either side. -/
theorem out189_apply (V : Valuation τ sig (Elt Ideal)) (S : Fin 8 → Fin 28 → Fin 28 → ℝ) (W : Fin 224 → Fin 28 → ℝ) (w : Fin 33 → ℝ)
    (hS : ∀ (b : Fin 8) (x v : Fin 28), (res_main_v19 V : Vec Ideal S8x784 .f32) (ix2 b ⟨x.val * 28 + v.val, by omega⟩) = (S b x v : EReal))
    (hW : ∀ i u, (res_main_v150 V : Vec Ideal S224x28 .f32) (ix2 i u) = (W i u : EReal))
    (hw : ∀ t, (V (Proc.devRef .tc main_arg2) : Vec Ideal S33 .f32) (ix1 t) = (w t : EReal)) (b : Fin 8) (i j : Fin 224) :
    out189 V (ix4 b 0 i j) = (∑ x, ((blurred W w i x : ℝ) : EReal) * ∑ v, (S b x v : EReal) * ((blurred W w j v : ℝ) : EReal) : EReal) := by
  rw [out189_apply', smooth_apply, ← blur_both_coe]
  refine Finset.sum_congr rfl fun t _ => ?_
  rw [smooth_apply, hw]
  refine congrArg (fun z : EReal => z * (w t : EReal)) (Finset.sum_congr rfl fun t' _ => ?_)
  rw [hw, v154 V S W hS hW]

end Cert.ReferenceIdeal.Maps
-- ==== Proof.Reference.Pre.lean ====
/- What the precondition says: real coordinates and taps, and the matrix argument is the smoothed interpolation matrix -/
module

public import proofs.«01_k».proof.Proof.Reference.PreFacts
public import proofs.«01_k».proof.Proof.Reference.Maps
public import Idealize.ShloMosaic.Lib.ReduceAll

@[expose] public section

noncomputable section

namespace Cert.Pre_finite_and_blur.Reading

open Cert.Pre_finite_and_blur Cert.Proof Cert.Math Facts
open Idealize.ShloMosaic

/-- The interpolation matrix. -/
def hat : FVec Ideal S224x28 .f32 :=
  maximumf (broadcastInDim S224x28 ![] bcast_S_S224x28 (constant S_ .f32 0x00000000#32)) (subf (broadcastInDim S224x28 ![] bcast_S_S224x28 (constant S_ .f32 0x3F800000#32)) (Host.absf (subf (broadcastInDim S224x28 ![0, 1] bcast_S224x1_S224x28_0_1 (broadcastInDim S224x1 ![0] bcast_S224_S224x1_0 (minimumf (broadcastInDim S224 ![] bcast_S_S224 (id (constant S_ .f32 0x41D80000#32))) (maximumf (broadcastInDim S224 ![] bcast_S_S224 (id (constant S_ .f32 0x00000000#32))) (subf (mulf (addf (sitofp .f32 (iotaInDim S224 32 0)) (broadcastInDim S224 ![] bcast_S_S224 (constant S_ .f32 0x3F000000#32))) (broadcastInDim S224 ![] bcast_S_S224 (constant S_ .f32 0x3E000000#32))) (broadcastInDim S224 ![] bcast_S_S224 (constant S_ .f32 0x3F000000#32))))))) (broadcastInDim S224x28 ![0, 1] bcast_S1x28_S224x28_0_1 (broadcastInDim S1x28 ![1] bcast_S28_S1x28_1 (sitofp .f32 (iotaInDim S28 32 0)))))))

/-- It is the reference's. -/
theorem hat_eq (V : Valuation Cert.ReferenceIdeal.τ Cert.ReferenceIdeal.sig (Elt Ideal)) : Cert.ReferenceIdeal.Value.res_main_v150 V = hat := rfl

/-- The rows of every window, wrapped. -/
def rows : IVec S224x33x1 32 :=
  broadcastInDim S224x33x1 ![0, 1] bcast_S224x33_S224x33x1_0_1 (select (cmpi .slt (addi (broadcastInDim S224x33 ![0, 1] bcast_S224x1_S224x33_0_1 (broadcastInDim S224x1 ![0] bcast_S224_S224x1_0 (iotaInDim S224 32 0))) (broadcastInDim S224x33 ![0, 1] bcast_S1x33_S224x33_0_1 (broadcastInDim S1x33 ![1] bcast_S33_S1x33_1 (iotaInDim S33 32 0)))) (broadcastInDim S224x33 ![] bcast_S_S224x33 (constantI S_ 32 0#32))) (addi (addi (broadcastInDim S224x33 ![0, 1] bcast_S224x1_S224x33_0_1 (broadcastInDim S224x1 ![0] bcast_S224_S224x1_0 (iotaInDim S224 32 0))) (broadcastInDim S224x33 ![0, 1] bcast_S1x33_S224x33_0_1 (broadcastInDim S1x33 ![1] bcast_S33_S1x33_1 (iotaInDim S33 32 0)))) (broadcastInDim S224x33 ![] bcast_S_S224x33 (constantI S_ 32 256#32))) (addi (broadcastInDim S224x33 ![0, 1] bcast_S224x1_S224x33_0_1 (broadcastInDim S224x1 ![0] bcast_S224_S224x1_0 (iotaInDim S224 32 0))) (broadcastInDim S224x33 ![0, 1] bcast_S1x33_S224x33_0_1 (broadcastInDim S1x33 ![1] bcast_S33_S1x33_1 (iotaInDim S33 32 0)))))

/-- The matrix the precondition asks for. -/
def want (x2 : FVec Ideal S33 .f32) : FVec Ideal S224x28 .f32 :=
  Host.dotGeneral (φ₁ := .f32) (φ₂ := .f32) dot_S224x33x28_S33_S224x28_1_0_02_n_n_n none (Host.gather gather_S256x28_S224x33x1_S224x33x28_2_0_n_n_0_2_128 (fn_pad (F := Ideal) hat (constantI S_ 32 0#32)) rows) x2

/-- The precondition, its parts named. -/
theorem fn_eq (x0 : FVec Ideal S6272x384 .f32) (x1 : FVec Ideal S16384x384 .f32) (x2 : FVec Ideal S33 .f32) (x3 : FVec Ideal S224x28 .f32) :
    fn (F := Ideal) x0 x1 x2 x3 = andi (andi (andi
      (Host.reduce IntOp.andi (cmpf .olt (Host.absf x0) (broadcastInDim S6272x384 ![] bcast_S_S6272x384 (constant S_ .f32 0x7F800000#32))) (constantI S_ 1 1#1) reducesTo_S6272x384_S_d0_1 h_S_)
      (Host.reduce IntOp.andi (cmpf .olt (Host.absf x1) (broadcastInDim S16384x384 ![] bcast_S_S16384x384 (constant S_ .f32 0x7F800000#32))) (constantI S_ 1 1#1) reducesTo_S16384x384_S_d0_1 h_S_))
      (Host.reduce IntOp.andi (cmpf .olt (Host.absf x2) (broadcastInDim S33 ![] bcast_S_S33 (constant S_ .f32 0x7F800000#32))) (constantI S_ 1 1#1) reducesTo_S33_S_d0 h_S_))
      (Host.reduce IntOp.andi (cmpf .oeq x3 (want x2)) (constantI S_ 1 1#1) reducesTo_S224x28_S_d0_1 h_S_) := rfl

theorem gather_window (x : FVec Ideal S256x28 .f32) (idx : IVec S224x33x1 32) (i : Fin 224) (t : Fin 33) (u : Fin 28) (k : Fin 256)
    (h0 : idx (ix3 i t 0) = BitVec.ofNat 32 k.val) :
    Host.gather gather_S256x28_S224x33x1_S224x33x28_2_0_n_n_0_2_128 x idx (ix3 i t u) = x (ix2 k u) := by
  unfold Host.gather
  congr 1
  funext a
  refine Fin.ext ?_
  match a with
  | ⟨0, _⟩ =>
    have e : (gather_S256x28_S224x33x1_S224x33x28_2_0_n_n_0_2_128).siIdx (ix3 i t u) ⟨0, by decide⟩ = ix3 i t 0 := by
      funext c; match c with
      | ⟨0, _⟩ => rfl
      | ⟨1, _⟩ => rfl
      | ⟨2, _⟩ => rfl
    show min (idx ((gather_S256x28_S224x33x1_S224x33x28_2_0_n_n_0_2_128).siIdx (ix3 i t u) ⟨0, by decide⟩)).toInt.toNat 255 + 0 + 0 = k.val
    rw [e, h0, Cert.ReferenceIdeal.Gathers.word_min (by omega) (by omega)]
    rfl
  | ⟨1, _⟩ =>
    show 0 + 0 + u.val = u.val
    omega

theorem rows_apply (i : Fin 224) (t : Fin 33) : rows (ix3 i t 0) = BitVec.ofNat 32 (i.val + t.val) := by
  pointwise [rows]
  refine Cert.ReferenceIdeal.Scores.wrap (by omega) _ _ ?_
  show BitVec.ofNat 32 i.val + BitVec.ofNat 32 t.val = _
  rw [BitVec.ofNat_add]

/-- The padding in front. -/
def pad1 (x : FVec Ideal S224x28 .f32) : FVec Ideal S240x28 .f32 :=
  concatenate S240x28 0 [⟨S16x28, Host.reverse [0] (extractStridedSlice S16x28 ![1, 0] x slices_S224x28_S16x28_1_0)⟩, ⟨S224x28, x⟩] concatenates_S16x28_S224x28_S240x28_d0

theorem fn_pad_eq (x : FVec Ideal S224x28 .f32) (z : IVec S_ 32) : fn_pad (F := Ideal) x z =
  concatenate S256x28 0 [⟨S240x28, pad1 x⟩, ⟨S16x28, Host.reverse [0] (extractStridedSlice S16x28 ![223, 0] (pad1 x) slices_S240x28_S16x28_223_0)⟩] concatenates_S240x28_S16x28_S256x28_d0 := rfl

theorem pad1_apply (x : FVec Ideal S224x28 .f32) (p : Fin 240) (u : Fin 28) : pad1 x (ix2 p u) = x (ix2 (refl ⟨p.val, by omega⟩) u) := by
  pointwise [pad1]
  have hp := p.isLt
  split
  · rename_i h
    refine congrArg (fun r => x (ix2 r u)) (Fin.ext ?_)
    show 1 + (16 - (p.val + 1)) = if p.val < 16 then 16 - p.val else _
    rw [if_pos h]
    omega
  · rename_i h
    refine congrArg (fun r => x (ix2 r u)) (Fin.ext ?_)
    simp [Cert.Math.refl]
    omega

theorem pad_apply (x : FVec Ideal S224x28 .f32) (z : IVec S_ 32) (p : Fin 256) (u : Fin 28) : fn_pad (F := Ideal) x z (ix2 p u) = x (ix2 (refl p) u) := by
  rw [fn_pad_eq]
  pointwise
  have hp := p.isLt
  split
  · rename_i h
    exact pad1_apply x _ u
  · rename_i h
    have hq : 223 + (16 - (p.val - 240 + 1)) < 240 := by omega
    refine Eq.trans (congrArg (pad1 x) (show _ = ix2 (⟨223 + (16 - (p.val - 240 + 1)), hq⟩ : Fin 240) u from ?_)) ((pad1_apply x _ u).trans ?_)
    · funext a
      match a with
      | ⟨0, _⟩ => rfl
      | ⟨1, _⟩ => rfl
    refine congrArg (fun r => x (ix2 r u)) (Fin.ext ?_)
    show (if 223 + (16 - (p.val - 240 + 1)) < 16 then 16 - (223 + (16 - (p.val - 240 + 1)))
      else if 223 + (16 - (p.val - 240 + 1)) < 240 then 223 + (16 - (p.val - 240 + 1)) - 16 else 462 - (223 + (16 - (p.val - 240 + 1))))
      = if p.val < 16 then 16 - p.val else if p.val < 240 then p.val - 16 else 462 - p.val
    rw [if_neg (show ¬ 223 + (16 - (p.val - 240 + 1)) < 16 by omega), if_pos hq, if_neg (show ¬ p.val < 16 by omega), if_neg h]
    omega

theorem want_apply (x2 : FVec Ideal S33 .f32) (i : Fin 224) (u : Fin 28) :
    want x2 (ix2 i u) = (∑ t : Fin 33, hat (ix2 (win i t) u) * x2 (ix1 t) : EReal) := by
  pointwise [want]
  refine Finset.sum_congr rfl fun t _ => congrArg (fun z : EReal => z * x2 (ix1 t)) ?_
  exact (gather_window _ rows i t u ⟨i.val + t.val, by omega⟩ (rows_apply i t)).trans (pad_apply hat _ _ u)

/-- An entry that passes the comparison with `+∞` is real. -/
theorem real_of_cmp {s : Shape} (x : FVec Ideal s .f32) (B : FVec Ideal s .f32) (i : s.Idx) (hB : B i = Ideal.ofBits FTy.f32 0x7F800000#32)
    (h : cmpf .olt (Host.absf x) B i = 1#1) : IsReal (x i) := by
  apply isReal_of_abs
  have h' : BitVec.ofBool (decide (max (x i) (-(x i)) < B i)) = 1#1 := h
  rw [hB, bits_top] at h'
  by_contra hc
  simp [hc] at h'

/-- What the precondition gives. -/
theorem reading (x0 : FVec Ideal S6272x384 .f32) (x1 : FVec Ideal S16384x384 .f32) (x2 : FVec Ideal S33 .f32) (x3 : FVec Ideal S224x28 .f32)
    (h : fn (F := Ideal) x0 x1 x2 x3 = fun _ => 1#1) :
    (∀ q d, IsReal (x0 (ix2 q d))) ∧ (∀ k d, IsReal (x1 (ix2 k d))) ∧ (∀ t, IsReal (x2 (ix1 t)))
      ∧ ∀ i u, x3 (ix2 i u) = want x2 (ix2 i u) := by
  rw [fn_eq] at h
  have h := congrFun h ix0
  have hand : ∀ a b : BitVec 1, IntOp.andi a b = 1#1 → a = 1#1 ∧ b = 1#1 := by decide
  obtain ⟨h, h3⟩ := hand _ _ h
  obtain ⟨h, h2⟩ := hand _ _ h
  obtain ⟨h0, h1⟩ := hand _ _ h
  refine ⟨fun q d => ?_, fun k d => ?_, fun t => ?_, fun i u => ?_⟩
  · exact real_of_cmp _ _ _ rfl (Host.reduce_andi_all _ _ _ _ _ h0 (ix2 q d))
  · exact real_of_cmp _ _ _ rfl (Host.reduce_andi_all _ _ _ _ _ h1 (ix2 k d))
  · exact real_of_cmp _ _ _ rfl (Host.reduce_andi_all _ _ _ _ _ h2 (ix1 t))
  · have e := Host.reduce_andi_all _ _ _ _ _ h3 (ix2 i u)
    have e' : BitVec.ofBool (decide (x3 (ix2 i u) = want x2 (ix2 i u))) = 1#1 := e
    by_contra hc
    simp [hc] at e'

end Cert.Pre_finite_and_blur.Reading
-- ==== Proof.Algebraic.lean ====
/- The two programs, from the same arguments, end with the same image scores and the same maps -/
module

public import proofs.«01_k».proof.Defs
public import proofs.«01_k».proof.Proof.KernelIdeal.Ends
public import proofs.«01_k».proof.Proof.Reference.Pre

@[expose] public section

noncomputable section

namespace Cert.Proof

open Cert.Math Idealize.ShloMosaic Idealize.SL.Sem

/-- The values both end with, for one device: `E` holds the kernel's arguments and `V` the reference's. -/
theorem same (m : (ℓ : Loc Cert.KernelIdeal.nD Cert.KernelIdeal.τ Cert.KernelIdeal.sig) → Buf (Elt Ideal) ℓ)
    (V : Valuation Cert.ReferenceIdeal.τ Cert.ReferenceIdeal.sig (Elt Ideal)) (c : Dev Cert.KernelIdeal.nD)
    (hpre : Cert.Pre_finite_and_blur.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) = fun _ => 1#1)
    (h0 : V (Proc.devRef .tc Cert.ReferenceIdeal.main_arg0) = m ((c.tc : Thread Cert.KernelIdeal.nD Cert.KernelIdeal.τ).loc Cert.KernelIdeal.main_arg0))
    (h1 : V (Proc.devRef .tc Cert.ReferenceIdeal.main_arg1) = m ((c.tc : Thread Cert.KernelIdeal.nD Cert.KernelIdeal.τ).loc Cert.KernelIdeal.main_arg1))
    (h2 : V (Proc.devRef .tc Cert.ReferenceIdeal.main_arg2) = m ((c.tc : Thread Cert.KernelIdeal.nD Cert.KernelIdeal.τ).loc Cert.KernelIdeal.main_arg2)) :
    Cert.ReferenceIdeal.Scores.out131 V = (Cert.KernelIdeal.Whole.U5 m c (Proc.devRef .tc Cert.KernelIdeal.main_v9) : Vec Ideal Cert.KernelIdeal.S8 .f32)
    ∧ Cert.ReferenceIdeal.Maps.out189 V = (Cert.KernelIdeal.Whole.U5 m c (Proc.devRef .tc Cert.KernelIdeal.main_v10) : Vec Ideal Cert.KernelIdeal.S8x1x224x224 .f32) := by
  obtain ⟨r0, r1, r2, r3⟩ := Cert.Pre_finite_and_blur.Reading.reading _ _ _ _ hpre
  choose X hX using r0
  choose Y hY using r1
  choose w hw using r2
  choose W hW using Cert.ReferenceIdeal.Maps.hat_real V
  have hX' : ∀ q d, (V (Proc.devRef .tc Cert.ReferenceIdeal.main_arg0) : Vec Ideal Cert.ReferenceIdeal.S6272x384 .f32) (ix2 q d) = (X q d : EReal) := fun q d => (congrFun h0 _).trans (hX q d)
  have hY' : ∀ k d, (V (Proc.devRef .tc Cert.ReferenceIdeal.main_arg1) : Vec Ideal Cert.ReferenceIdeal.S16384x384 .f32) (ix2 k d) = (Y k d : EReal) := fun k d => (congrFun h1 _).trans (hY k d)
  have hw' : ∀ t, (V (Proc.devRef .tc Cert.ReferenceIdeal.main_arg2) : Vec Ideal Cert.ReferenceIdeal.S33 .f32) (ix1 t) = (w t : EReal) := fun t => (congrFun h2 _).trans (hw t)
  have ha : ∀ i u, (m ((c.tc : Thread Cert.KernelIdeal.nD Cert.KernelIdeal.τ).loc Cert.KernelIdeal.main_arg3) : Vec Ideal Cert.KernelIdeal.S224x28 .f32) (ix2 i u) = ((blurred W w i u : ℝ) : EReal) := by
    intro i u
    refine (r3 i u).trans ((Cert.Pre_finite_and_blur.Reading.want_apply _ i u).trans (Eq.trans (Finset.sum_congr rfl fun t _ => ?_) (blurred_coe W w i u)))
    rw [← Cert.Pre_finite_and_blur.Reading.hat_eq V, hW, hw]
  constructor
  · funext q
    rw [eq_ix1 q]
    exact (Cert.ReferenceIdeal.Scores.out131_apply V X Y hX' hY' _).trans (Cert.KernelIdeal.Ends.pred_end m c X Y hX hY _).symm
  · funext q
    have eq : q = ix4 (q 0) 0 (q 2) (q 3) := by
      funext a
      match a with
      | ⟨0, _⟩ => rfl
      | ⟨1, _⟩ => exact Subsingleton.elim (α := Fin 1) _ _
      | ⟨2, _⟩ => rfl
      | ⟨3, _⟩ => rfl
    rw [eq]
    refine (Cert.ReferenceIdeal.Maps.out189_apply V (fun b x v => Real.sqrt (sq (X (row b ⟨x.val * 28 + v.val, by omega⟩)) (Y (near Y (X (row b ⟨x.val * 28 + v.val, by omega⟩)))))) W w
      (fun b x v => Cert.ReferenceIdeal.Scores.v19 V X Y hX' hY' b _) hW hw' (q 0) (q 2) (q 3)).trans
      (Eq.trans ?_ (Cert.KernelIdeal.Ends.map_end m c X Y hX hY (fun i u => ((blurred W w i u : ℝ) : EReal)) ha (q 0) (q 2) (q 3)).symm)
    refine Finset.sum_congr rfl fun x _ => congrArg (fun z : EReal => ((blurred W w (q 2) x : ℝ) : EReal) * z) (Finset.sum_congr rfl fun v _ => ?_)
    refine congrArg (fun z : EReal => z * ((blurred W w (q 3) v : ℝ) : EReal)) ?_
    have e : row (q 0) ⟨x.val * 28 + v.val, by omega⟩ = (⟨((q 0).val * 28 + x.val) * 28 + v.val, by have : (q 0).val < 8 := (q 0).isLt; omega⟩ : Fin 6272) :=
      Fin.ext (show (q 0).val * 784 + (x.val * 28 + v.val) = ((q 0).val * 28 + x.val) * 28 + v.val by omega)
    exact congrArg (score X Y) e

theorem algebraic : Cert.algebraic_KernelIdeal_ReferenceIdeal_pre_finite_and_blur (hKernelIdeal := Cert.KernelIdeal.Gen.facts)
    (hReferenceIdeal := Cert.ReferenceIdeal.Gen.facts) (hPre_finite_and_blur := preFacts) := by
  intro m g m' g' hpre hargs
  refine ⟨fun c => Cert.KernelIdeal.Whole.U5 m c (Proc.devRef .tc Cert.KernelIdeal.main_v9), fun c => Cert.KernelIdeal.Whole.U5 m c (Proc.devRef .tc Cert.KernelIdeal.main_v10), ?_, ?_⟩
  · exact (θ_run _ _ _).mono (fun r h c => ⟨h.1 c Cert.KernelIdeal.main_v9 rfl, h.1 c Cert.KernelIdeal.main_v10 rfl,
      (h.1 c Cert.KernelIdeal.main_arg0 rfl).trans (Cert.KernelIdeal.Whole.keeps m c _ (by decide)),
      (h.1 c Cert.KernelIdeal.main_arg1 rfl).trans (Cert.KernelIdeal.Whole.keeps m c _ (by decide)),
      (h.1 c Cert.KernelIdeal.main_arg2 rfl).trans (Cert.KernelIdeal.Whole.keeps m c _ (by decide)),
      (h.1 c Cert.KernelIdeal.main_arg3 rfl).trans (Cert.KernelIdeal.Whole.keeps m c _ (by decide))⟩) (Cert.KernelIdeal.Whole.run_at m g)
  · exact (θ_run _ _ _).mono (fun r h c =>
      have s := same m (StableHlo.launchContents m' c) c (hpre c) (hargs c).1 (hargs c).2.1 (hargs c).2.2.1
      ⟨(h c).1.trans s.1, (h c).2.1.trans s.2, (h c).2.2⟩) (Cert.ReferenceIdeal.Value.run m' g')

end Cert.Proof

end
-- ==== Proof.lean ====
/- The proof of the certificate's claim. -/
module

public import proofs.«01_k».proof.Defs
public import proofs.«01_k».proof.Proof.Frames
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, preFacts,
    frame_kernel, frame_ideal, fun m ρ _ => Cert.KernelIdeal.Whole.frame m ρ, frame_reference,
    fun m ρ _ => frame_reference m ρ trivial, trivial, algebraic⟩

end Cert.Proof

end
